-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_7)) (v4 : (c : Dev Cert.KernelIdeal.nD) → Buf (Elt Ideal) ((c.tc : Thread Cert.KernelIdeal.nD Cert.KernelIdeal.τ).loc Cert.KernelIdeal.main_v0_2)) (v5 : (c : Dev Cert.KernelIdeal.nD) → Buf (Elt Ideal) ((c.tc : Thread Cert.KernelIdeal.nD Cert.KernelIdeal.τ).loc Cert.KernelIdeal.main_v3_8)) (v6 : (c : Dev Cert.KernelIdeal.nD) → Buf (Elt Ideal) ((c.tc : Thread Cert.KernelIdeal.nD Cert.KernelIdeal.τ).loc Cert.KernelIdeal.main_v3_3)) (v7 : (c : Dev Cert.KernelIdeal.nD) → Buf (Elt Ideal) ((c.tc : Thread Cert.KernelIdeal.nD Cert.KernelIdeal.τ).loc Cert.KernelIdeal.main_v3_5)) (v8 : (c : Dev Cert.KernelIdeal.nD) → Buf (Elt Ideal) ((c.tc : Thread Cert.KernelIdeal.nD Cert.KernelIdeal.τ).loc Cert.KernelIdeal.main_v0_0)) (v9 : (c : Dev Cert.KernelIdeal.nD) → Buf (Elt Ideal) ((c.tc : Thread Cert.KernelIdeal.nD Cert.KernelIdeal.τ).loc Cert.KernelIdeal.main_v0_1)) (v10 : (c : Dev Cert.KernelIdeal.nD) → Buf (Elt Ideal) ((c.tc : Thread Cert.KernelIdeal.nD Cert.KernelIdeal.τ).loc Cert.KernelIdeal.main_v3_4)) (v11 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_7) = v3 c
          ∧ r.2.mem ((c.tc : Thread Cert.KernelIdeal.nD Cert.KernelIdeal.τ).loc Cert.KernelIdeal.main_v0_2) = v4 c
          ∧ r.2.mem ((c.tc : Thread Cert.KernelIdeal.nD Cert.KernelIdeal.τ).loc Cert.KernelIdeal.main_v3_8) = v5 c
          ∧ r.2.mem ((c.tc : Thread Cert.KernelIdeal.nD Cert.KernelIdeal.τ).loc Cert.KernelIdeal.main_v3_3) = v6 c
          ∧ r.2.mem ((c.tc : Thread Cert.KernelIdeal.nD Cert.KernelIdeal.τ).loc Cert.KernelIdeal.main_v3_5) = v7 c
          ∧ r.2.mem ((c.tc : Thread Cert.KernelIdeal.nD Cert.KernelIdeal.τ).loc Cert.KernelIdeal.main_v0_0) = v8 c
          ∧ r.2.mem ((c.tc : Thread Cert.KernelIdeal.nD Cert.KernelIdeal.τ).loc Cert.KernelIdeal.main_v0_1) = v9 c
          ∧ r.2.mem ((c.tc : Thread Cert.KernelIdeal.nD Cert.KernelIdeal.τ).loc Cert.KernelIdeal.main_v3_4) = v10 c
          ∧ r.2.mem ((c.tc : Thread Cert.KernelIdeal.nD Cert.KernelIdeal.τ).loc Cert.KernelIdeal.main_v3_6) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_v2_8) = v8 c
          ∧ r.2.mem ((c.tc : Thread Cert.ReferenceIdeal.nD Cert.ReferenceIdeal.τ).loc Cert.ReferenceIdeal.main_v2_9) = v9 c
          ∧ r.2.mem ((c.tc : Thread Cert.ReferenceIdeal.nD Cert.ReferenceIdeal.τ).loc Cert.ReferenceIdeal.main_v2_10) = v10 c
          ∧ r.2.mem ((c.tc : Thread Cert.ReferenceIdeal.nD Cert.ReferenceIdeal.τ).loc Cert.ReferenceIdeal.main_v2_11) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x2304 : Shape := ⟨3, ![8, 1024, 2304]⟩
abbrev S2304x2560 : Shape := ⟨2, ![2304, 2560]⟩
abbrev S8x1024x2560 : Shape := ⟨3, ![8, 1024, 2560]⟩
abbrev S16 : Shape := ⟨1, ![16]⟩
abbrev S1 : Shape := ⟨1, ![1]⟩
abbrev S288x2560 : Shape := ⟨2, ![288, 2560]⟩
abbrev S8x2560 : Shape := ⟨2, ![8, 2560]⟩
abbrev S36x8x2560 : Shape := ⟨3, ![36, 8, 2560]⟩
abbrev S1x8x2560 : Shape := ⟨3, ![1, 8, 2560]⟩
abbrev S1x1x1 : Shape := ⟨3, ![1, 1, 1]⟩
abbrev S8192x2304 : Shape := ⟨2, ![8192, 2304]⟩
abbrev S8192x2560 : Shape := ⟨2, ![8192, 2560]⟩
abbrev S1024x8x2560 : Shape := ⟨3, ![1024, 8, 2560]⟩
abbrev S1024x8x2304 : Shape := ⟨3, ![1024, 8, 2304]⟩
abbrev S512x2304 : Shape := ⟨2, ![512, 2304]⟩
abbrev S512x2560 : Shape := ⟨2, ![512, 2560]⟩
abbrev S64x8x2560 : Shape := ⟨3, ![64, 8, 2560]⟩
abbrev S64x8x2304 : Shape := ⟨3, ![64, 8, 2304]⟩
abbrev S8x2304 : Shape := ⟨2, ![8, 2304]⟩
abbrev S1x8x2304 : Shape := ⟨3, ![1, 8, 2304]⟩

abbrev nBuf : Space → Nat
  | .hbm => 20
  | .vmem => 21
  | .smem => 10
  | _ => 0

abbrev bufTy : (tb : Table) → Fin (tcTables nBuf tb) → BufTy
  | .hbm, ⟨0, _⟩ => ⟨S8x1024x2304, .bf16⟩
  | .hbm, ⟨1, _⟩ => ⟨S2304x2560, .f32⟩
  | .hbm, ⟨2, _⟩ => ⟨S8x1024x2560, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S2304x2560, .fp8e4m3⟩
  | .hbm, ⟨7, _⟩ => ⟨S1, .f32⟩
  | .hbm, ⟨8, _⟩ => ⟨S16, .f32⟩
  | .hbm, ⟨9, _⟩ => ⟨S8192x2304, .bf16⟩
  | .hbm, ⟨10, _⟩ => ⟨S8192x2560, .bf16⟩
  | .hbm, ⟨11, _⟩ => ⟨S1024x8x2560, .bf16⟩
  | .hbm, ⟨12, _⟩ => ⟨S1024x8x2304, .bf16⟩
  | .hbm, ⟨13, _⟩ => ⟨S2304x2560, .f32⟩
  | .hbm, ⟨14, _⟩ => ⟨S8192x2304, .fp8e4m3⟩
  | .hbm, ⟨15, _⟩ => ⟨S8192x2560, .fp8e5m2⟩
  | .hbm, ⟨16, _⟩ => ⟨S1, .f32⟩
  | .hbm, ⟨17, _⟩ => ⟨S1, .f32⟩
  | .hbm, ⟨18, _⟩ => ⟨S16, .f32⟩
  | .hbm, ⟨19, _⟩ => ⟨S16, .f32⟩
  | .local _ .vmem, ⟨0, _⟩ => ⟨S288x2560, .f32⟩
  | .local _ .vmem, ⟨1, _⟩ => ⟨S288x2560, .f32⟩
  | .local _ .vmem, ⟨2, _⟩ => ⟨S288x2560, .fp8e4m3⟩
  | .local _ .vmem, ⟨3, _⟩ => ⟨S288x2560, .fp8e4m3⟩
  | .local _ .vmem, ⟨4, _⟩ => ⟨S8x2560, .f32⟩
  | .local _ .vmem, ⟨5, _⟩ => ⟨S512x2304, .bf16⟩
  | .local _ .vmem, ⟨6, _⟩ => ⟨S512x2304, .bf16⟩
  | .local _ .vmem, ⟨7, _⟩ => ⟨S512x2560, .bf16⟩
  | .local _ .vmem, ⟨8, _⟩ => ⟨S512x2560, .bf16⟩
  | .local _ .vmem, ⟨9, _⟩ => ⟨S2304x2560, .fp8e4m3⟩
  | .local _ .vmem, ⟨10, _⟩ => ⟨S64x8x2560, .bf16⟩
  | .local _ .vmem, ⟨11, _⟩ => ⟨S64x8x2560, .bf16⟩
  | .local _ .vmem, ⟨12, _⟩ => ⟨S64x8x2304, .bf16⟩
  | .local _ .vmem, ⟨13, _⟩ => ⟨S64x8x2304, .bf16⟩
  | .local _ .vmem, ⟨14, _⟩ => ⟨S2304x2560, .f32⟩
  | .local _ .vmem, ⟨15, _⟩ => ⟨S512x2304, .fp8e4m3⟩
  | .local _ .vmem, ⟨16, _⟩ => ⟨S512x2304, .fp8e4m3⟩
  | .local _ .vmem, ⟨17, _⟩ => ⟨S512x2560, .fp8e5m2⟩
  | .local _ .vmem, ⟨18, _⟩ => ⟨S512x2560, .fp8e5m2⟩
  | .local _ .vmem, ⟨19, _⟩ => ⟨S8x2304, .f32⟩
  | .local _ .vmem, ⟨20, _⟩ => ⟨S8x2560, .f32⟩
  | .local _ .smem, ⟨0, _⟩ => ⟨S16, .f32⟩
  | .local _ .smem, ⟨1, _⟩ => ⟨S1, .f32⟩
  | .local _ .smem, ⟨2, _⟩ => ⟨S16, .f32⟩
  | .local _ .smem, ⟨3, _⟩ => ⟨S16, .f32⟩
  | .local _ .smem, ⟨4, _⟩ => ⟨S16, .f32⟩
  | .local _ .smem, ⟨5, _⟩ => ⟨S1, .f32⟩
  | .local _ .smem, ⟨6, _⟩ => ⟨S1, .f32⟩
  | .local _ .smem, ⟨7, _⟩ => ⟨S1, .f32⟩
  | .local _ .smem, ⟨8, _⟩ => ⟨S16, .f32⟩
  | .local _ .smem, ⟨9, _⟩ => ⟨S16, .f32⟩
  | _, _ => ⟨S8x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_v3_7 : Ref sig .tc := ⟨.hbm, 18, rfl⟩
abbrev main_v3_8 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc1_stg7_0 : Ref sig .tc := ⟨.vmem, 12, rfl⟩
abbrev cc1_stg7_1 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg9_1 : Ref sig .tc := ⟨.vmem, 16, rfl⟩
abbrev cc1_stg10_0 : Ref sig .tc := ⟨.vmem, 17, rfl⟩
abbrev cc1_stg10_1 : Ref sig .tc := ⟨.vmem, 18, rfl⟩
abbrev cc1_scratch0 : Ref sig .tc := ⟨.vmem, 19, rfl⟩
abbrev cc1_scratch1 : Ref sig .tc := ⟨.vmem, 20, rfl⟩
abbrev cc0_stg0_0 : Ref sig .tc := ⟨.smem, 0, rfl⟩
abbrev cc0_stg3_0 : Ref sig .tc := ⟨.smem, 1, rfl⟩
abbrev cc0_stg4_0 : Ref sig .tc := ⟨.smem, 2, rfl⟩
abbrev cc1_stg0_0 : Ref sig .tc := ⟨.smem, 3, rfl⟩
abbrev cc1_stg1_0 : Ref sig .tc := ⟨.smem, 4, rfl⟩
abbrev cc1_stg2_0 : Ref sig .tc := ⟨.smem, 5, rfl⟩
abbrev cc1_stg11_0 : Ref sig .tc := ⟨.smem, 6, rfl⟩
abbrev cc1_stg12_0 : Ref sig .tc := ⟨.smem, 7, rfl⟩
abbrev cc1_stg13_0 : Ref sig .tc := ⟨.smem, 8, rfl⟩
abbrev cc1_stg14_0 : Ref sig .tc := ⟨.smem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem12_0 : DmaSem sig := 25
abbrev cc1_sem13_0 : DmaSem sig := 26
abbrev cc1_sem14_0 : DmaSem sig := 27

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v165 : BitVec 1 := Scalar.cmpi .eq arg0 c7_i32
  let v166 : BitVec 32 := Scalar.extui v165
  let c0_i32_83 : BitVec 32 := 0#32
  let v167 : BitVec 1 := Scalar.cmpi .ne v166 c0_i32_83
  v167

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S288x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v0 : BitVec 1 := Scalar.cmpi .eq arg0 c15_i32
  let v356 : BitVec 32 := Scalar.extui v0
  let c0_i32_198 : BitVec 32 := 0#32
  let v357 : BitVec 1 := Scalar.cmpi .ne v356 c0_i32_198
  v357

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .smem S16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2304 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2560 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2304x2560 .fp8e4m3 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S64x8x2560 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S64x8x2304 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S2304x2560 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x2304 .fp8e4m3 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x2560 .fp8e5m2 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .smem S1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .smem S1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .smem S16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .smem S16 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== ReferenceIdeal.lean ====
abbrev S8x1024x2304 : Shape := ⟨3, ![8, 1024, 2304]⟩
abbrev S2304x2560 : Shape := ⟨2, ![2304, 2560]⟩
abbrev S8x1024x2560 : Shape := ⟨3, ![8, 1024, 2560]⟩
abbrev S16 : Shape := ⟨1, ![16]⟩
abbrev S8192x2304 : Shape := ⟨2, ![8192, 2304]⟩
abbrev S8192x2560 : Shape := ⟨2, ![8192, 2560]⟩
abbrev S1 : Shape := ⟨1, ![1]⟩
abbrev S1x16 : Shape := ⟨2, ![1, 16]⟩
abbrev S1x1 : Shape := ⟨2, ![1, 1]⟩
abbrev S1x276 : Shape := ⟨2, ![1, 276]⟩
abbrev S1x1x276 : Shape := ⟨3, ![1, 1, 276]⟩
abbrev S1x1x1 : Shape := ⟨3, ![1, 1, 1]⟩
abbrev S15 : Shape := ⟨1, ![15]⟩
abbrev S1x8192x2304 : Shape := ⟨3, ![1, 8192, 2304]⟩
abbrev S1x2304x2560 : Shape := ⟨3, ![1, 2304, 2560]⟩
abbrev S1x8192x2560 : Shape := ⟨3, ![1, 8192, 2560]⟩
abbrev S1024x8x2560 : Shape := ⟨3, ![1024, 8, 2560]⟩
abbrev S1024x8x2304 : Shape := ⟨3, ![1024, 8, 2304]⟩

abbrev nBuf : Space → Nat
  | .hbm => 22
  | .vmem => 18
  | .smem => 0
  | _ => 0

abbrev bufTy : (tb : Table) → Fin (tcTables nBuf tb) → BufTy
  | .hbm, ⟨0, _⟩ => ⟨S8x1024x2304, .bf16⟩
  | .hbm, ⟨1, _⟩ => ⟨S2304x2560, .f32⟩
  | .hbm, ⟨2, _⟩ => ⟨S8x1024x2560, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S8192x2304, .bf16⟩
  | .hbm, ⟨7, _⟩ => ⟨S8192x2560, .bf16⟩
  | .hbm, ⟨8, _⟩ => ⟨S8192x2560, .bf16⟩
  | .hbm, ⟨9, _⟩ => ⟨S8192x2304, .bf16⟩
  | .hbm, ⟨10, _⟩ => ⟨S2304x2560, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S8192x2304, .fp8e4m3⟩
  | .hbm, ⟨15, _⟩ => ⟨S1, .f32⟩
  | .hbm, ⟨16, _⟩ => ⟨S2304x2560, .fp8e4m3⟩
  | .hbm, ⟨17, _⟩ => ⟨S1, .f32⟩
  | .hbm, ⟨18, _⟩ => ⟨S8192x2560, .fp8e5m2⟩
  | .hbm, ⟨19, _⟩ => ⟨S1, .f32⟩
  | .hbm, ⟨20, _⟩ => ⟨S1024x8x2560, .bf16⟩
  | .hbm, ⟨21, _⟩ => ⟨S1024x8x2304, .bf16⟩
  | .local _ .vmem, ⟨0, _⟩ => ⟨S8192x2304, .bf16⟩
  | .local _ .vmem, ⟨1, _⟩ => ⟨S2304x2560, .f32⟩
  | .local _ .vmem, ⟨2, _⟩ => ⟨S8192x2560, .bf16⟩
  | .local _ .vmem, ⟨3, _⟩ => ⟨S16, .f32⟩
  | .local _ .vmem, ⟨4, _⟩ => ⟨S16, .f32⟩
  | .local _ .vmem, ⟨5, _⟩ => ⟨S16, .f32⟩
  | .local _ .vmem, ⟨6, _⟩ => ⟨S8192x2560, .bf16⟩
  | .local _ .vmem, ⟨7, _⟩ => ⟨S8192x2304, .bf16⟩
  | .local _ .vmem, ⟨8, _⟩ => ⟨S2304x2560, .f32⟩
  | .local _ .vmem, ⟨9, _⟩ => ⟨S16, .f32⟩
  | .local _ .vmem, ⟨10, _⟩ => ⟨S16, .f32⟩
  | .local _ .vmem, ⟨11, _⟩ => ⟨S16, .f32⟩
  | .local _ .vmem, ⟨12, _⟩ => ⟨S8192x2304, .fp8e4m3⟩
  | .local _ .vmem, ⟨13, _⟩ => ⟨S1, .f32⟩
  | .local _ .vmem, ⟨14, _⟩ => ⟨S2304x2560, .fp8e4m3⟩
  | .local _ .vmem, ⟨15, _⟩ => ⟨S1, .f32⟩
  | .local _ .vmem, ⟨16, _⟩ => ⟨S8192x2560, .fp8e5m2⟩
  | .local _ .vmem, ⟨17, _⟩ => ⟨S1, .f32⟩
  | _, _ => ⟨S8x1024x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev main_v2_9 : Ref sig .tc := ⟨.hbm, 17, rfl⟩
abbrev main_v2_10 : Ref sig .tc := ⟨.hbm, 18, rfl⟩
abbrev main_v2_11 : Ref sig .tc := ⟨.hbm, 19, rfl⟩
abbrev main_v3 : Ref sig .tc := ⟨.hbm, 20, rfl⟩
abbrev main_v4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S8192x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2304 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2304x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x2304 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2304x2560 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8192x2560 .fp8e5m2 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.QuantSetup.lean ====
/-
  The weight kernel (the first of the two kernels of the step, pipeline 0): its windows' blocks, its two branch
  conditions in closed form, and at which grid points an output window is left alone.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Quant

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data over the entry
    contents whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weight window. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The condition of the body's first branch, from the grid coordinate. -/
abbrev condFirst (i : grid0.Coords) : Prop := (Scalar.cmpi .ne (Scalar.extui (Scalar.cmpi .eq (BitVec.ofNat 32 (i 0).val) 0#32)) 0#32) = 1#1
/-- It holds at the first point only. -/
theorem hcondFirst : ∀ t : Fin cfg0.N, condFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [condFirst, e0]
    have : t.val / 1 % 8 = t.val := by omega
    rw [this]
    word_cmp
   : ∀ t : Fin grid0.N, condFirst (grid0.coords t) ↔ t.val = 0)

/-- The condition of the body's second branch. -/
abbrev condLast (i : grid0.Coords) : Prop := k0_cond2 i = 1#1
/-- It holds at the last point only. -/
theorem hcondLast : ∀ t : Fin cfg0.N, condLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    simp only [condLast, k0_cond2, e0]
    have : t.val / 1 % 8 = t.val := by omega
    rw [this]
    word_cmp
   : ∀ t : Fin grid0.N, condLast (grid0.coords t) ↔ t.val = 7)

/-- The code window is stored at every point. -/
theorem live2 : ∀ t : Fin cfg0.N, cfg0.idle 2 (grid0.coords t) = false := fun _ => rfl
/-- Before the last point the scale window is left alone and not written back; at the last it is stored. -/
theorem idle3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem live3 : ∀ t : Fin cfg0.N, condLast (grid0.coords t) → cfg0.idle 3 (grid0.coords t) = false := by decide +kernel
/-- The same for the new history. -/
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- Each window's current staging memref at point `t`, and its wholeness. -/
abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S288x2560 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S288x2560 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .smem S1 .f32 := win0_3.stage (cfg0.slots t 3)
abbrev hs3 (t : Fin cfg0.N) : (ms3 t).IsWhole := hstage0_3 ((cfg0.slots t 3).cast nbuf0_3)
abbrev ms4 (t : Fin cfg0.N) : Memref sig .tc .smem S16 .f32 := win0_4.stage (cfg0.slots t 4)
abbrev hs4 (t : Fin cfg0.N) : (ms4 t).IsWhole := hstage0_4 ((cfg0.slots t 4).cast nbuf0_4)
/-- The scratch that carries the running maxima from point to point. -/
abbrev scM : Memref sig .tc .vmem S8x2560 .f32 := Memref.whole cc0_scratch0

/-- A buffer of the core, at some contents. -/
abbrev anyBuf (c : Dev nD) (b : Ref sig .tc) : sProp 𝕄 :=
  iprop(∃ f : Buf (Elt F) ((c : Thread nD τ).loc b), ((c : Thread nD τ).loc b) ↦{fullShare} f)

/-- The other kernel's buffers, which this one leaves alone. -/
def others (c : Dev nD) : sProp 𝕄 :=
  iprop(anyBuf c cc1_stg3_0 ∗ anyBuf c cc1_stg3_1 ∗ anyBuf c cc1_stg4_0 ∗ anyBuf c cc1_stg4_1 ∗ anyBuf c cc1_stg5_0 ∗ anyBuf c cc1_stg6_0 ∗ anyBuf c cc1_stg6_1 ∗ anyBuf c cc1_stg7_0 ∗ anyBuf c cc1_stg7_1 ∗ anyBuf c cc1_stg8_0 ∗ anyBuf c cc1_stg9_0 ∗ anyBuf c cc1_stg9_1 ∗ anyBuf c cc1_stg10_0 ∗ anyBuf c cc1_stg10_1 ∗ anyBuf c cc1_scratch0 ∗ anyBuf c cc1_scratch1 ∗ anyBuf c cc1_stg0_0 ∗ anyBuf c cc1_stg1_0 ∗ anyBuf c cc1_stg2_0 ∗ anyBuf c cc1_stg11_0 ∗ anyBuf c cc1_stg12_0 ∗ anyBuf c cc1_stg13_0 ∗ anyBuf c cc1_stg14_0)

/-- What the launch hands the region: the scratch at anything, the other buffers, and the generator register. -/
theorem PhiA_eq (c : Dev nD) :
    (Pipeline.ΦA spec0 c : sProp 𝕄)
      = iprop(iprop((∃ d, owns (c : Thread nD τ) scM fullShare d) ∗ others c) ∗ (∃ r, prngReg c r)) := by
  unfold Pipeline.ΦA; rw [scopedRest0_eq]; simp only [scM, owns_whole]; rfl

end Cert.KernelIdeal.Quant

end
-- ==== Proof.Ladder.lean ====
module
public import proofs.«01_k».proof.Proof.Gen.KernelIdeal.Skeleton
@[expose] public section
set_option maxRecDepth 16384
/-!
# The delayed scale of one tensor

The scale of a tensor is the power of two just above `max(history) / FP8_MAX`. The programs find it by a
ladder of comparisons with powers of two; here the ladder is written as a fold over the list of its steps.
-/
noncomputable section
namespace Cert.KernelIdeal
open Idealize.ShloMosaic

variable {F : FTy → Type} [FloatOps F]

/-- One step of the ladder: the bits of the power it compares with, of the factor of the mantissa, of the
    factor of the scale. The inverse scale is multiplied by the factor of the mantissa. -/
structure Rung where
  /-- The power compared with. -/
  test : BitVec 32
  /-- The factor of the mantissa and of the inverse scale. -/
  mant : BitVec 32
  /-- The factor of the scale. -/
  scale : BitVec 32

/-- Mantissa, scale and inverse scale. -/
structure Climb (F : FTy → Type) where
  /-- What is left of the number. -/
  m : F .f32
  /-- The scale. -/
  s : F .f32
  /-- The inverse scale. -/
  r : F .f32

/-- A step taken when the mantissa is at least the power. -/
def Climb.up (x : Climb F) (q : Rung) : Climb F :=
  ⟨Scalar.select (Scalar.cmpf .oge x.m (Scalar.ofBits .f32 q.test)) (Scalar.mulf x.m (Scalar.ofBits .f32 q.mant)) x.m,
   Scalar.select (Scalar.cmpf .oge x.m (Scalar.ofBits .f32 q.test)) (Scalar.mulf x.s (Scalar.ofBits .f32 q.scale)) x.s,
   Scalar.select (Scalar.cmpf .oge x.m (Scalar.ofBits .f32 q.test)) (Scalar.mulf x.r (Scalar.ofBits .f32 q.mant)) x.r⟩

/-- A step taken when the mantissa is below the power. -/
def Climb.down (x : Climb F) (q : Rung) : Climb F :=
  ⟨Scalar.select (Scalar.cmpf .olt x.m (Scalar.ofBits .f32 q.test)) (Scalar.mulf x.m (Scalar.ofBits .f32 q.mant)) x.m,
   Scalar.select (Scalar.cmpf .olt x.m (Scalar.ofBits .f32 q.test)) (Scalar.mulf x.s (Scalar.ofBits .f32 q.scale)) x.s,
   Scalar.select (Scalar.cmpf .olt x.m (Scalar.ofBits .f32 q.test)) (Scalar.mulf x.r (Scalar.ofBits .f32 q.mant)) x.r⟩

/-- The steps up: by 2^64, 2^32, 2^16, 2^8, 2^4, 2^2, 2. -/
def upSteps : List Rung :=
  [⟨0x5F800000#32, 0x1F800000#32, 0x5F800000#32⟩,
   ⟨0x4F800000#32, 0x2F800000#32, 0x4F800000#32⟩,
   ⟨0x47800000#32, 0x37800000#32, 0x47800000#32⟩,
   ⟨0x43800000#32, 0x3B800000#32, 0x43800000#32⟩,
   ⟨0x41800000#32, 0x3D800000#32, 0x41800000#32⟩,
   ⟨0x40800000#32, 0x3E800000#32, 0x40800000#32⟩,
   ⟨0x40000000#32, 0x3F000000#32, 0x40000000#32⟩]

/-- The steps down: by 2^64, 2^22, 2^32, 2^16, 2^8, 2^4, 2^2, 2. -/
def downSteps : List Rung :=
  [⟨0x20000000#32, 0x5F800000#32, 0x1F800000#32⟩,
   ⟨0x35000000#32, 0x4A800000#32, 0x34800000#32⟩,
   ⟨0x30000000#32, 0x4F800000#32, 0x2F800000#32⟩,
   ⟨0x38000000#32, 0x47800000#32, 0x37800000#32⟩,
   ⟨0x3C000000#32, 0x43800000#32, 0x3B800000#32⟩,
   ⟨0x3E000000#32, 0x41800000#32, 0x3D800000#32⟩,
   ⟨0x3F000000#32, 0x40800000#32, 0x3E800000#32⟩,
   ⟨0x3F800000#32, 0x40000000#32, 0x3F000000#32⟩]

/-- The ladder from `m`: scale 2 and inverse scale 1/2 to start with, all steps up, then all steps down. -/
def climb (m : F .f32) : Climb F :=
  downSteps.foldl Climb.down (upSteps.foldl Climb.up ⟨m, Scalar.ofBits .f32 0x40000000#32, Scalar.ofBits .f32 0x3F000000#32⟩)

/-- Is the number strictly between zero and infinity? -/
def isNormal (m : F .f32) : BitVec 1 :=
  Scalar.andi (Scalar.cmpf .ogt m (Scalar.ofBits .f32 0x00000000#32)) (Scalar.cmpf .olt m (Scalar.ofBits .f32 0x7F800000#32))

/-- One where the flag is down or the history's maximum is zero, the given number elsewhere. -/
def guarded (a m v : F .f32) : F .f32 :=
  Scalar.select (Scalar.cmpf .oeq a (Scalar.ofBits .f32 0x00000000#32)) (Scalar.ofBits .f32 0x3F800000#32)
    (Scalar.select (isNormal m) v (Scalar.ofBits .f32 0x3F800000#32))

/-- The number the ladder starts from: `|a · k|`, for the history's maximum `a` and the bits of `k`. -/
def start (k : BitVec 32) (a : F .f32) : F .f32 := Scalar.absf (Scalar.mulf a (Scalar.ofBits .f32 k))

/-- The scale for a history of maximum `a`. -/
def scaleOf (k : BitVec 32) (a : F .f32) : F .f32 := guarded a (start k a) (climb (start k a)).s

/-- The inverse scale for a history of maximum `a`. -/
def invOf (k : BitVec 32) (a : F .f32) : F .f32 := guarded a (start k a) (climb (start k a)).r

/-- The entry of a history at the offset `o`. -/
def cellAt (o : Fin 1 → ℕ) (h : ∀ a, o a + S1.size a ≤ S16.size a) : S16.Idx :=
  fun a => ⟨o a, Nat.lt_of_lt_of_le (Nat.lt_add_of_pos_right (by
    have ha : a = (0 : Fin 1) := Subsingleton.elim (α := Fin 1) a 0
    subst ha; exact Nat.one_pos)) (h a)⟩

/-- Entry `k` of a history. -/
def cell (k : Fin 16) : S16.Idx :=
  cellAt ![k.val] fun a => by
    have ha : a = (0 : Fin 1) := Subsingleton.elim (α := Fin 1) a 0
    subst ha; exact k.isLt

/-- A history moved on by one entry: every entry takes the place of the one before it, `v` comes last. -/
def pushHist (h : Vec F S16 .f32) (v : F .f32) : Vec F S16 .f32 :=
  fun y => if hy : (y 0).val + 1 < 16 then h (cell ⟨(y 0).val + 1, hy⟩) else v

/-- The greatest of sixteen history entries, compared from the first on. -/
def histMax (h : Vec F S16 .f32) : F .f32 :=
  Scalar.maximumf (Scalar.maximumf (Scalar.maximumf (Scalar.maximumf (Scalar.maximumf (Scalar.maximumf (Scalar.maximumf
    (Scalar.maximumf (Scalar.maximumf (Scalar.maximumf (Scalar.maximumf (Scalar.maximumf (Scalar.maximumf (Scalar.maximumf
    (Scalar.maximumf (h (cell 0)) (h (cell 1))) (h (cell 2))) (h (cell 3))) (h (cell 4))) (h (cell 5))) (h (cell 6))) (h (cell 7))) (h (cell 8))) (h (cell 9)))
    (h (cell 10))) (h (cell 11))) (h (cell 12))) (h (cell 13))) (h (cell 14))) (h (cell 15))
end Cert.KernelIdeal
end
-- ==== Proof.Reads.lean ====
module
public import proofs.«01_k».proof.Proof.Ladder
public import Idealize.ShloMosaic.Lib.Exec
public import Idealize.ShloMosaic.Lib.Ring
public import Idealize.ShloMosaic.Lib.WholeRead
public import Idealize.ShloMosaic.Lib.VecWindow
public import Idealize.ShloMosaic.Lib.CellWrites
@[expose] public section
set_option maxRecDepth 16384
/-!
# What loads and stores of whole buffers and of history cells read

Facts the runs of both bodies use: a load of one cell of a history, a load of a whole buffer, a buffer after
one whole store, a history after its sixteen cell stores.
-/
noncomputable section
namespace Cert.KernelIdeal
open Idealize.ShloMosaic Idealize.ShloMosaic.Tactic
variable {F : FTy → Type} [FloatOps F]

/-- A load of one cell of a history that reads `h` is the cell. -/
theorem load_cell {sp : Space} {m : Memref sig .tc sp S16 .f32} (hm : m.IsWhole) (h : Vec F S16 .f32) (o : Fin 1 → ℕ)
    (inb : ∀ a, o a + S1.size a ≤ S16.size a) :
    m.view.readAt (Elt F) (Rect.unit (s := S16) o S1.size inb).toLoadRect (hm.unread h) = fun _ => h (cellAt o inb) := by
  funext x; rw [hm.readAt_unread]; congr 1; funext a; apply Fin.ext
  have ha : a = (0 : Fin 1) := Subsingleton.elim (α := Fin 1) a 0
  subst ha
  have : (x 0).val < 1 := (x 0).isLt
  simp [cellAt]; omega

/-- A load of a whole buffer that reads `X` is `X`. -/
theorem load_whole {sp : Space} {s : Shape} {e : EltTy} {m : Memref sig .tc sp s e} (hm : m.IsWhole) (X : Vec F s e)
    (o : Fin s.rank → ℕ) (inb : ∀ a, o a + s.size a ≤ s.size a) :
    m.view.readAt (Elt F) (Rect.unit (s := s) o s.size inb).toLoadRect (hm.unread X) = X := by
  rw [View.readAt_full, hm.read_unread]

/-- Under the store of `p` in the cell at `o`, cell `o` reads `p`, every other cell what was stored before. -/
theorem read_cell {sp : Space} (v : View sig .tc sp S16 .f32) (f : v.ty.Contents (Elt F)) (o : Fin 1 → ℕ)
    (inb : ∀ a, o a + S1.size a ≤ S16.size a) (p : F .f32) (L : List (View.Piece (Elt F) S16 .f32)) (y : S16.Idx) :
    v.read (Elt F) (v.writes (Elt F) f ((⟨Rect.unit (s := S16) o S1.size inb, fun _ => p⟩ : View.Piece (Elt F) S16 .f32) :: L)) y
      = if (y 0).val = o 0 then p else v.read (Elt F) (v.writes (Elt F) f L) y :=
  View.read_writes_cons_cell v f inb p L y

/-- A history after its sixteen cell stores reads the history moved on by one entry. -/
theorem read_pushHist {sp : Space} (v : View sig .tc sp S16 .f32) (f : v.ty.Contents (Elt F)) (h : Vec F S16 .f32) (p : F .f32) :
    v.read (Elt F) (v.writes (Elt F) f
      [⟨Rect.unit (s := S16) ![15] S1.size (by decide), fun _ => p⟩,
        ⟨Rect.unit (s := S16) ![14] S1.size (by decide), fun _ => h (cell 15)⟩,
        ⟨Rect.unit (s := S16) ![13] S1.size (by decide), fun _ => h (cell 14)⟩,
        ⟨Rect.unit (s := S16) ![12] S1.size (by decide), fun _ => h (cell 13)⟩,
        ⟨Rect.unit (s := S16) ![11] S1.size (by decide), fun _ => h (cell 12)⟩,
        ⟨Rect.unit (s := S16) ![10] S1.size (by decide), fun _ => h (cell 11)⟩,
        ⟨Rect.unit (s := S16) ![9] S1.size (by decide), fun _ => h (cell 10)⟩,
        ⟨Rect.unit (s := S16) ![8] S1.size (by decide), fun _ => h (cell 9)⟩,
        ⟨Rect.unit (s := S16) ![7] S1.size (by decide), fun _ => h (cell 8)⟩,
        ⟨Rect.unit (s := S16) ![6] S1.size (by decide), fun _ => h (cell 7)⟩,
        ⟨Rect.unit (s := S16) ![5] S1.size (by decide), fun _ => h (cell 6)⟩,
        ⟨Rect.unit (s := S16) ![4] S1.size (by decide), fun _ => h (cell 5)⟩,
        ⟨Rect.unit (s := S16) ![3] S1.size (by decide), fun _ => h (cell 4)⟩,
        ⟨Rect.unit (s := S16) ![2] S1.size (by decide), fun _ => h (cell 3)⟩,
        ⟨Rect.unit (s := S16) ![1] S1.size (by decide), fun _ => h (cell 2)⟩,
        ⟨Rect.unit (s := S16) ![0] S1.size (by decide), fun _ => h (cell 1)⟩]) = pushHist h p := by
  funext y
  iterate 16 rw [read_cell]
  have hy : (y (0 : Fin 1)).val < 16 := (y (0 : Fin 1)).isLt
  suffices ∀ (k : ℕ) (L : F .f32) (hk : k < 16), (if k = 15 then p else if k = 14 then h (cell 15) else if k = 13 then h (cell 14)
      else if k = 12 then h (cell 13) else if k = 11 then h (cell 12) else if k = 10 then h (cell 11)
      else if k = 9 then h (cell 10) else if k = 8 then h (cell 9) else if k = 7 then h (cell 8) else if k = 6 then h (cell 7)
      else if k = 5 then h (cell 6) else if k = 4 then h (cell 5) else if k = 3 then h (cell 4) else if k = 2 then h (cell 3)
      else if k = 1 then h (cell 2) else if k = 0 then h (cell 1) else L)
        = if hy : k + 1 < 16 then h (cell ⟨k + 1, hy⟩) else p from this _ _ hy
  intro k L hk
  have hk' : k = 0 ∨ k = 1 ∨ k = 2 ∨ k = 3 ∨ k = 4 ∨ k = 5 ∨ k = 6 ∨ k = 7 ∨ k = 8 ∨ k = 9 ∨ k = 10 ∨ k = 11 ∨ k = 12
      ∨ k = 13 ∨ k = 14 ∨ k = 15 := by omega
  clear hk
  rcases hk' with rfl | rfl | rfl | rfl | rfl | rfl | rfl | rfl | rfl | rfl | rfl | rfl | rfl | rfl | rfl | rfl <;> rfl
end Cert.KernelIdeal
end
-- ==== Proof.QuantRun.lean ====
module
public import proofs.«01_k».proof.Proof.QuantSetup
public import proofs.«01_k».proof.Proof.Ladder
public import proofs.«01_k».proof.Proof.Reads
@[expose] public section
set_option maxRecDepth 16384
/-!
# One grid point of the weights' quantiser

What one run of the body leaves in each of its buffers, in the three cases of the grid point: the first, one
between, the last. The codes are written at every point; the scale and the moved history at the last alone;
the running maximum is started at the first and carried on.
-/
noncomputable section
namespace Cert.KernelIdeal.Quant
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ

/-- The bits of the constant the history's maximum is multiplied by, near 1/448. -/
abbrev perMax : BitVec 32 := 0x3B124925#32

/-- The codes of a block of weights: times the inverse scale, clipped to ±448, narrowed. -/
def codes (h : Vec F S16 .f32) (w : Vec F S288x2560 .f32) : Vec F S288x2560 .fp8e4m3 :=
  k0_pay1 (mulf w (broadcast S288x2560 (invOf perMax (histMax h)))) (Scalar.ofBits .f32 0xC3E00000#32)

/-- The scale, as the one entry of its buffer. -/
def scale (h : Vec F S16 .f32) : Vec F S1 .f32 := fun _ => scaleOf perMax (histMax h)

/-- The running maximum before the first block: zero. -/
def acc0 : Vec F S8x2560 .f32 := k0_pay2

/-- The running maximum after a block of weights. -/
def accStep (w : Vec F S288x2560 .f32) (s : Vec F S8x2560 .f32) : Vec F S8x2560 .f32 := k0_pay3 w s

/-- The moved history: the maximum of the whole running maximum comes last. -/
def newHist (h : Vec F S16 .f32) (s : Vec F S8x2560 .f32) : Vec F S16 .f32 := pushHist h (k0_pay4 s)

variable (c : Dev nD) (i : grid0.Coords) (arg1 : Memref sig .tc .smem S16 .f32) (harg1 : arg1.IsWhole)
    (arg2 : Memref sig .tc .vmem S288x2560 .f32) (harg2 : arg2.IsWhole) (arg3 : Memref sig .tc .vmem S288x2560 .fp8e4m3) (harg3 : arg3.IsWhole)
    (arg4 : Memref sig .tc .smem S1 .f32) (harg4 : arg4.IsWhole) (arg5 : Memref sig .tc .smem S16 .f32) (harg5 : arg5.IsWhole)
    (arg6 : Memref sig .tc .vmem S8x2560 .f32) (harg6 : arg6.IsWhole)
    (x0 : Vec F S16 .f32) (x1 : Vec F S288x2560 .f32) (xs0 : Vec F S8x2560 .f32)

set_option maxHeartbeats 1000000 in
/-- The body at the first point. -/
theorem firstPoint (hc0 : condFirst i) (hc1 : ¬condLast i) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (codes x0 x1)
            ∗ owns (c : Thread nD τ) arg6 fullShare (accStep x1 acc0)) -∗ K ⟨⟩))
      ⊢ wp frame (wpE (defs₀ (F := F)) Variants.none c none) E
          (cc0_quant_w i arg1 harg1 arg2 harg2 arg3 harg3 arg4 harg4 arg5 harg5 arg6 harg6) K := by
  simp only [cc0_quant_w_eq_skeleton]; unfold cc0_quant_w_skel
  simp only [k0_part2_eq_skeleton, k0_part3_eq_skeleton, k0_part4_eq_skeleton, k0_part5_eq_skeleton, k0_part1_eq_skeleton]
  have hl1 := load_cell harg1 x0
  have hl2 := load_whole harg2 x1 ![0, 0] inb_S288x2560_S288x2560_0_0
  unfold owns
  iintro ⟨⟨%f0, %hf0, H0⟩, ⟨%f1, %hf1, H1⟩, ⟨%d2, %f2, -, H2⟩, ⟨%ds0, %fs0, -, HS0⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_full arg3.view f2 _ _ _).trans ?_
    sl_kernel_rfl
  · iexists _; isplitr
    swap; · iexact HS0
    ipureintro
    refine (View.read_writes_full arg6.view _ _ _ _).trans ?_
    exact congrArg (k0_pay3 x1) (View.readCov_full arg6.view _ _ _ _)

set_option maxHeartbeats 1000000 in
/-- The body at a point between. -/
theorem midPoint (hc0 : ¬condFirst i) (hc1 : ¬condLast i) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg6 fullShare xs0
        ∗ (iprop(owns (c : Thread nD τ) arg1 fullShare x0 ∗ owns (c : Thread nD τ) arg2 fullShare x1
            ∗ owns (c : Thread nD τ) arg3 fullShare (codes x0 x1)
            ∗ owns (c : Thread nD τ) arg6 fullShare (accStep x1 xs0)) -∗ K ⟨⟩))
      ⊢ wp frame (wpE (defs₀ (F := F)) Variants.none c none) E
          (cc0_quant_w i arg1 harg1 arg2 harg2 arg3 harg3 arg4 harg4 arg5 harg5 arg6 harg6) K := by
  simp only [cc0_quant_w_eq_skeleton]; unfold cc0_quant_w_skel
  simp only [k0_part2_eq_skeleton, k0_part3_eq_skeleton, k0_part4_eq_skeleton, k0_part5_eq_skeleton, k0_part1_eq_skeleton]
  have hl1 := load_cell harg1 x0
  have hl2 := load_whole harg2 x1 ![0, 0] inb_S288x2560_S288x2560_0_0
  have hl6 := load_whole harg6 xs0 ![0, 0] inb_S8x2560_S8x2560_0_0
  unfold owns
  iintro ⟨⟨%f0, %hf0, H0⟩, ⟨%f1, %hf1, H1⟩, ⟨%d2, %f2, -, H2⟩, ⟨%fs0, %hfs0, HS0⟩, Hk⟩
  obtain rfl := harg1.eq_unread hf0; obtain rfl := harg2.eq_unread hf1; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_full arg3.view f2 _ _ _).trans ?_
    sl_kernel_rfl
  · iexists _; isplitr
    swap; · iexact HS0
    ipureintro
    refine (View.read_writes_full arg6.view _ _ _ _).trans ?_
    sl_kernel_rfl

set_option maxHeartbeats 1000000 in
/-- The body at the last point. -/
theorem lastPoint (hc0 : ¬condFirst i) (hc1 : condLast i) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ owns (c : Thread nD τ) arg6 fullShare xs0
        ∗ (iprop(owns (c : Thread nD τ) arg1 fullShare x0 ∗ owns (c : Thread nD τ) arg2 fullShare x1
            ∗ owns (c : Thread nD τ) arg3 fullShare (codes x0 x1)
            ∗ owns (c : Thread nD τ) arg4 fullShare (scale x0) ∗ owns (c : Thread nD τ) arg5 fullShare (newHist x0 (accStep x1 xs0))
            ∗ owns (c : Thread nD τ) arg6 fullShare (accStep x1 xs0)) -∗ K ⟨⟩))
      ⊢ wp frame (wpE (defs₀ (F := F)) Variants.none c none) E
          (cc0_quant_w i arg1 harg1 arg2 harg2 arg3 harg3 arg4 harg4 arg5 harg5 arg6 harg6) K := by
  simp only [cc0_quant_w_eq_skeleton]; unfold cc0_quant_w_skel
  simp only [k0_part2_eq_skeleton, k0_part3_eq_skeleton, k0_part4_eq_skeleton, k0_part5_eq_skeleton, k0_part1_eq_skeleton]
  have hl1 := load_cell harg1 x0
  have hl2 := load_whole harg2 x1 ![0, 0] inb_S288x2560_S288x2560_0_0
  have hl6 := load_whole harg6 xs0 ![0, 0] inb_S8x2560_S8x2560_0_0
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
  obtain rfl := harg1.eq_unread hf0; obtain rfl := harg2.eq_unread hf1; obtain rfl := harg6.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (View.read_writes_full arg3.view f2 _ _ _).trans ?_
    sl_kernel_rfl
  isplitl [H3]
  · iexists _; isplitr
    swap; · iexact H3
    ipureintro
    refine (View.read_writes_full arg4.view f3 _ _ _).trans ?_
    sl_kernel_rfl
  isplitl [H4]
  · iexists _; isplitr
    swap; · iexact H4
    ipureintro
    refine Eq.trans ?_ (read_pushHist arg5.view f4 x0 _)
    have hr : lastPoint.sl.r_39 c arg6 x1 xs0 = k0_pay4 (accStep x1 xs0) := by
      unfold lastPoint.sl.r_39
      exact congrArg k0_pay4 (View.readCov_full arg6.view _ _ _ _)
    rw [hr]
    sl_kernel_rfl
  · iexists _; isplitr
    swap; · iexact HS0
    ipureintro
    refine (View.read_writes_full arg6.view _ _ _ _).trans ?_
    sl_kernel_rfl

end Cert.KernelIdeal.Quant
end
-- ==== Proof.QuantRegion.lean ====
module
public import proofs.«01_k».proof.Proof.QuantRun
public import Idealize.ShloMosaic.Lib.Pipeline.FrameBody
@[expose] public section
set_option maxRecDepth 16384
/-!
# The weights' quantiser over its grid

The proof data of the first pipeline, over any contents `V` of the arrays at its start: what every window's
buffer holds after every point, the running maximum the scratch carries from point to point, and the body's
obligation at every point.
-/
noncomputable section
namespace Cert.KernelIdeal.Quant
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The running maximum after the first `n` blocks of weights. -/
def accAt (c : Dev nD) : ℕ → Vec F S8x2560 .f32
  | 0 => acc0
  | n + 1 => if h : n < cfg0.N then accStep (iblk V c 1 ⟨n, h⟩) (accAt c n) else accAt c n

/-- One block more. -/
theorem accAt_succ (c : Dev nD) (t : Fin cfg0.N) : accAt V c (t.val + 1) = accStep (iblk V c 1 t) (accAt V c t.val) := by
  rw [accAt, dif_pos t.isLt]

/-- The invariant before position `n`: before the first point what the launch hands over, afterwards the scratch at the
    running maximum, the other buffers and the generator register at anything. -/
def PhiS (c : Dev nD) : ℕ → sProp 𝕄
  | 0 => Pipeline.ΦA spec0 c
  | n + 1 => iprop(iprop(owns (c : Thread nD τ) scM fullShare (accAt V c (n + 1)) ∗ others c) ∗ (∃ r, prngReg c r))

theorem PhiS_pos (c : Dev nD) (n : ℕ) (hz : n ≠ 0) :
    PhiS V c n = iprop(iprop(owns (c : Thread nD τ) scM fullShare (accAt V c n) ∗ others c) ∗ (∃ r, prngReg c r)) := by
  cases n with
  | zero => exact absurd rfl hz
  | succ n => rfl

/-- The proof data: the arrays as the region finds them; after the body at a point the inputs' buffers at their blocks
    and the outputs' at the point's codes, the scale and the moved history. -/
def dats (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => codes (iblk V c 0 t) (iblk V c 1 t)
    | ⟨3, _⟩ => scale (iblk V c 0 t)
    | ⟨4, _⟩ => newHist (iblk V c 0 t) (accAt V c (t.val + 1))
  Φ t := PhiS V c t.val
  q _ := fullShare
  owed _ := 0

theorem A_eq (c : Dev nD) (w : Fin cfg0.W) : (dats V c).A w = V c (Pipeline.arrRef spec0 w) := by dsimp only [dats]

theorem after_0 (c : Dev nD) (t : Fin cfg0.N) : (dats V c).after 0 t = iblk V c 0 t := by dsimp only [dats]
theorem after_1 (c : Dev nD) (t : Fin cfg0.N) : (dats V c).after 1 t = iblk V c 1 t := by dsimp only [dats]
theorem after_2 (c : Dev nD) (t : Fin cfg0.N) : (dats V c).after 2 t = codes (iblk V c 0 t) (iblk V c 1 t) := by dsimp only [dats]
theorem after_3 (c : Dev nD) (t : Fin cfg0.N) : (dats V c).after 3 t = scale (iblk V c 0 t) := by dsimp only [dats]
theorem after_4 (c : Dev nD) (t : Fin cfg0.N) :
    (dats V c).after 4 t = newHist (iblk V c 0 t) (accAt V c (t.val + 1)) := by dsimp only [dats]

theorem before_0 (c : Dev nD) (t : Fin cfg0.N) (d) : (dats V c).before 0 t d = iblk V c 0 t :=
  before0_of V (dats V c) (A_eq V c 0) (after_0 V c) t d
theorem before_1 (c : Dev nD) (t : Fin cfg0.N) (d) : (dats V c).before 1 t d = iblk V c 1 t :=
  before1_of V (dats V c) (A_eq V c 1) (after_1 V c) t d

theorem Phi_castSucc (c : Dev nD) (t : Fin cfg0.N) : (dats V c).Φ t.castSucc = PhiS V c t.val := by
  dsimp only [dats]; rfl

/-- What the body is called with at point `t`, the windows one by one, -/
def bodyPre (c : Dev nD) (t : Fin cfg0.N) : sProp 𝕄 :=
  iprop((dats V c).Φ t.castSucc ∗ (dats V c).owesAt () t.castSucc
    ∗ (∃ d, owns (c : Thread nD τ) (ms0 t) fullShare ((dats V c).before 0 t d))
    ∗ (∃ d, owns (c : Thread nD τ) (ms1 t) fullShare ((dats V c).before 1 t d))
    ∗ (∃ d, owns (c : Thread nD τ) (ms2 t) fullShare ((dats V c).before 2 t d))
    ∗ (∃ d, owns (c : Thread nD τ) (ms3 t) fullShare ((dats V c).before 3 t d))
    ∗ (∃ d, owns (c : Thread nD τ) (ms4 t) fullShare ((dats V c).before 4 t d)))

/-- and what it returns. -/
def bodyPost (c : Dev nD) (t : Fin cfg0.N) : sProp 𝕄 :=
  iprop((dats V c).Φ t.succ ∗ (dats V c).owesAt () t.succ
    ∗ (dats V c).leavesExact 0 t ∗ (dats V c).leavesExact 1 t ∗ (dats V c).leavesExact 2 t
    ∗ (dats V c).leavesExact 3 t ∗ (dats V c).leavesExact 4 t)

/-- A live window's buffer is returned at what the body leaves. -/
theorem leaves_0 (c : Dev nD) (t : Fin cfg0.N) : (dats V c).leavesExact 0 t = owns (c : Thread nD τ) (ms0 t) fullShare (iblk V c 0 t) := by
  rw [← after_0]
theorem leaves_1 (c : Dev nD) (t : Fin cfg0.N) : (dats V c).leavesExact 1 t = owns (c : Thread nD τ) (ms1 t) fullShare (iblk V c 1 t) := by
  rw [← after_1]
theorem leaves_2 (c : Dev nD) (t : Fin cfg0.N) :
    (dats V c).leavesExact 2 t = owns (c : Thread nD τ) (ms2 t) fullShare (codes (iblk V c 0 t) (iblk V c 1 t)) := by
  rw [← after_2]
theorem leaves_3 (c : Dev nD) (t : Fin cfg0.N) (h : condLast (grid0.coords t)) :
    (dats V c).leavesExact 3 t = owns (c : Thread nD τ) (ms3 t) fullShare (scale (iblk V c 0 t)) := by
  unfold Dat.leavesExact; rw [live3 t h, after_3]
theorem leaves_4 (c : Dev nD) (t : Fin cfg0.N) (h : condLast (grid0.coords t)) :
    (dats V c).leavesExact 4 t = owns (c : Thread nD τ) (ms4 t) fullShare (newHist (iblk V c 0 t) (accAt V c (t.val + 1))) := by
  unfold Dat.leavesExact; rw [live4 t h, after_4]

set_option maxHeartbeats 1600000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dats V c).owesAt () t.succ = (dats V c).owesAt () t.castSucc from rfl]
  rw [show (dats V c).Φ t.succ = PhiS V c (t.val + 1) from rfl, Phi_castSucc, PhiS_pos V c (t.val + 1) (Nat.succ_ne_zero _)]
  rw [leaves_0, leaves_1, leaves_2, accAt_succ]
  have hN : t.val < 8 := lt_of_lt_of_eq t.isLt (show cfg0.N = 8 from N_0)
  by_cases h0 : t.val = 0
  · have hc0 := (hcondFirst t).mpr h0
    have hc1 : ¬condLast (grid0.coords t) := fun h => by have := (hcondLast t).mp h; omega
    rw [Dat.leavesExact_idle (dats V c) 3 t (idle3 t hc1) (noFlush3 t hc1), Dat.leavesExact_idle (dats V c) 4 t (idle4 t hc1) (noFlush4 t hc1)]
    rw [h0, show PhiS V c 0 = Pipeline.ΦA spec0 c from rfl, PhiA_eq, show accAt V c 0 = acc0 from rfl]
    iintro ⟨⟨⟨HS0, HR⟩, Hg⟩, Ho, ⟨%d0, H0⟩, ⟨%d1, H1⟩, ⟨%d2, H2⟩, ⟨%d3, H3⟩, ⟨%d4, H4⟩⟩
    iapply (firstPoint c (grid0.coords t) _ _ _ _ _ _ _ _ _ _ _ _ (iblk V c 0 t) (iblk V c 1 t) hc0 hc1 Set.univ _)
    isplitl [H0]; · iexact H0
    isplitl [H1]; · iexact H1
    isplitl [H2]; · iexists _; iexact H2
    isplitl [HS0]; · iexact HS0
    iintro ⟨H0, H1, H2, HS0⟩
    isplitl [HS0 HR Hg]
    · isplitl [HS0 HR]
      · isplitl [HS0]
        · iexact HS0
        iexact HR
      iexact Hg
    isplitl [Ho]; · iexact Ho
    isplitl [H0]; · iexact H0
    isplitl [H1]; · iexact H1
    isplitl [H2]; · iexact H2
    isplitl [H3]; · iexists _; iexact H3
    iexists _; iexact H4
  · have hc0 : ¬condFirst (grid0.coords t) := fun h => h0 ((hcondFirst t).mp h)
    rw [PhiS_pos V c t.val h0]
    by_cases h1 : t.val = 7
    · have hc1 := (hcondLast t).mpr h1
      rw [leaves_3 V c t hc1, leaves_4 V c t hc1, accAt_succ]
      iintro ⟨⟨⟨HS0, HR⟩, Hg⟩, Ho, ⟨%d0, H0⟩, ⟨%d1, H1⟩, ⟨%d2, H2⟩, ⟨%d3, H3⟩, ⟨%d4, H4⟩⟩
      iapply (lastPoint c (grid0.coords t) _ _ _ _ _ _ _ _ _ _ _ _ (iblk V c 0 t) (iblk V c 1 t) (accAt V c t.val) hc0 hc1 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      iintro ⟨H0, H1, H2, H3, H4, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexact H3
      iexact H4
    · have hc1 : ¬condLast (grid0.coords t) := fun h => h1 ((hcondLast t).mp h)
      rw [Dat.leavesExact_idle (dats V c) 3 t (idle3 t hc1) (noFlush3 t hc1), Dat.leavesExact_idle (dats V c) 4 t (idle4 t hc1) (noFlush4 t hc1)]
      iintro ⟨⟨⟨HS0, HR⟩, Hg⟩, Ho, ⟨%d0, H0⟩, ⟨%d1, H1⟩, ⟨%d2, H2⟩, ⟨%d3, H3⟩, ⟨%d4, H4⟩⟩
      iapply (midPoint c (grid0.coords t) _ _ _ _ _ _ _ _ _ _ _ _ (iblk V c 0 t) (iblk V c 1 t) (accAt V c t.val) hc0 hc1 Set.univ _)
      isplitl [H0]; · iexact H0
      isplitl [H1]; · iexact H1
      isplitl [H2]; · iexists _; iexact H2
      isplitl [HS0]; · iexact HS0
      iintro ⟨H0, H1, H2, HS0⟩
      isplitl [HS0 HR Hg]
      · isplitl [HS0 HR]
        · isplitl [HS0]
          · iexact HS0
          iexact HR
        iexact Hg
      isplitl [Ho]; · iexact Ho
      isplitl [H0]; · iexact H0
      isplitl [H1]; · iexact H1
      isplitl [H2]; · iexact H2
      isplitl [H3]; · iexists _; iexact H3
      iexists _; iexact H4

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : Pipeline.ΦA spec0 c ⊢ (dats V c).Φ 0 := by
  rw [show (dats V c).Φ 0 = Pipeline.ΦA spec0 c from rfl]

/-- After the last point the invariant gives it back. -/
theorem hout (c : Dev nD) : (dats V c).Φ (Fin.last cfg0.N) ⊢ Pipeline.ΦA spec0 c := by
  rw [show (dats V c).Φ (Fin.last cfg0.N) = PhiS V c 8 from by dsimp only [dats]; rw [Fin.val_last, show cfg0.N = 8 from N_0],
    PhiS_pos V c 8 (by omega), PhiA_eq]
  iintro ⟨⟨HS0, HR⟩, Hg⟩
  isplitl [HS0 HR]
  · isplitl [HS0]
    · iexists _; iexact HS0
    iexact HR
  iexact Hg
end Cert.KernelIdeal.Quant
end
-- ==== Proof.LinearSetup.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
@[expose] public section
set_option maxRecDepth 16384
/-!
# The linear layer's kernel: windows and conditions

The second of the two kernels of the step: its windows' blocks, its two branch conditions in closed form, and at
which grid points an output window is left alone.
-/
noncomputable section
namespace Cert.KernelIdeal.Linear
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at every point, for any proof data over the entry
contents whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The condition of the body's first branch, from the grid coordinate. -/
abbrev condFirst (i : grid1.Coords) : Prop := (Scalar.cmpi .ne (Scalar.extui (Scalar.cmpi .eq (BitVec.ofNat 32 (i 0).val) 0#32)) 0#32) = 1#1
/-- It holds at the first point only. -/
theorem hcondFirst : ∀ t : Fin cfg1.N, condFirst (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    simp only [condFirst, e0]
    have : t.val / 1 % 16 = t.val := by omega
    rw [this]
    word_cmp
   : ∀ t : Fin grid1.N, condFirst (grid1.coords t) ↔ t.val = 0)

/-- The condition of the body's second branch. -/
abbrev condLast (i : grid1.Coords) : Prop := k1_cond2 i = 1#1
/-- It holds at the last point only. -/
theorem hcondLast : ∀ t : Fin cfg1.N, condLast (grid1.coords t) ↔ t.val = 15 :=
  (fun t => by
    have ht : t.val < 16 := Nat.lt_of_lt_of_eq t.isLt N_1
    have e0 : (grid1.coords t 0).val = t.val / 1 % 16 := Pipeline.Grid.coords_val t 0 (by decide) rfl
    simp only [condLast, k1_cond2, e0]
    have : t.val / 1 % 16 = t.val := by omega
    rw [this]
    word_cmp
   : ∀ t : Fin grid1.N, condLast (grid1.coords t) ↔ t.val = 15)

/-! Before the last point the two scales' and the two histories' windows are left alone and not written back; at the
last they are stored. -/
theorem idle11 : ∀ t : Fin cfg1.N, ¬condLast (grid1.coords t) → cfg1.idle 11 (grid1.coords t) = true := by decide +kernel
theorem noFlush11 : ∀ t : Fin cfg1.N, ¬condLast (grid1.coords t) → (cfg1.win 11).flush t = false := by decide +kernel
theorem live11 : ∀ t : Fin cfg1.N, condLast (grid1.coords t) → cfg1.idle 11 (grid1.coords t) = false := by decide +kernel
theorem idle12 : ∀ t : Fin cfg1.N, ¬condLast (grid1.coords t) → cfg1.idle 12 (grid1.coords t) = true := by decide +kernel
theorem noFlush12 : ∀ t : Fin cfg1.N, ¬condLast (grid1.coords t) → (cfg1.win 12).flush t = false := by decide +kernel
theorem live12 : ∀ t : Fin cfg1.N, condLast (grid1.coords t) → cfg1.idle 12 (grid1.coords t) = false := by decide +kernel
theorem idle13 : ∀ t : Fin cfg1.N, ¬condLast (grid1.coords t) → cfg1.idle 13 (grid1.coords t) = true := by decide +kernel
theorem noFlush13 : ∀ t : Fin cfg1.N, ¬condLast (grid1.coords t) → (cfg1.win 13).flush t = false := by decide +kernel
theorem live13 : ∀ t : Fin cfg1.N, condLast (grid1.coords t) → cfg1.idle 13 (grid1.coords t) = false := by decide +kernel
theorem idle14 : ∀ t : Fin cfg1.N, ¬condLast (grid1.coords t) → cfg1.idle 14 (grid1.coords t) = true := by decide +kernel
theorem noFlush14 : ∀ t : Fin cfg1.N, ¬condLast (grid1.coords t) → (cfg1.win 14).flush t = false := by decide +kernel
theorem live14 : ∀ t : Fin cfg1.N, condLast (grid1.coords t) → cfg1.idle 14 (grid1.coords t) = false := by decide +kernel

/-! Each window's current staging memref at point `t`. -/
abbrev ms0 (t : Fin cfg1.N) : Memref sig .tc .smem S16 .f32 := win1_0.stage (cfg1.slots t 0)
abbrev ms1 (t : Fin cfg1.N) : Memref sig .tc .smem S16 .f32 := win1_1.stage (cfg1.slots t 1)
abbrev ms2 (t : Fin cfg1.N) : Memref sig .tc .smem S1 .f32 := win1_2.stage (cfg1.slots t 2)
abbrev ms3 (t : Fin cfg1.N) : Memref sig .tc .vmem S512x2304 .bf16 := win1_3.stage (cfg1.slots t 3)
abbrev ms4 (t : Fin cfg1.N) : Memref sig .tc .vmem S512x2560 .bf16 := win1_4.stage (cfg1.slots t 4)
abbrev ms5 (t : Fin cfg1.N) : Memref sig .tc .vmem S2304x2560 .fp8e4m3 := win1_5.stage (cfg1.slots t 5)
abbrev ms6 (t : Fin cfg1.N) : Memref sig .tc .vmem S64x8x2560 .bf16 := win1_6.stage (cfg1.slots t 6)
abbrev ms7 (t : Fin cfg1.N) : Memref sig .tc .vmem S64x8x2304 .bf16 := win1_7.stage (cfg1.slots t 7)
abbrev ms8 (t : Fin cfg1.N) : Memref sig .tc .vmem S2304x2560 .f32 := win1_8.stage (cfg1.slots t 8)
abbrev ms9 (t : Fin cfg1.N) : Memref sig .tc .vmem S512x2304 .fp8e4m3 := win1_9.stage (cfg1.slots t 9)
abbrev ms10 (t : Fin cfg1.N) : Memref sig .tc .vmem S512x2560 .fp8e5m2 := win1_10.stage (cfg1.slots t 10)
abbrev ms11 (t : Fin cfg1.N) : Memref sig .tc .smem S1 .f32 := win1_11.stage (cfg1.slots t 11)
abbrev ms12 (t : Fin cfg1.N) : Memref sig .tc .smem S1 .f32 := win1_12.stage (cfg1.slots t 12)
abbrev ms13 (t : Fin cfg1.N) : Memref sig .tc .smem S16 .f32 := win1_13.stage (cfg1.slots t 13)
abbrev ms14 (t : Fin cfg1.N) : Memref sig .tc .smem S16 .f32 := win1_14.stage (cfg1.slots t 14)
/-- The scratch that carries the running maxima of the activations from point to point. -/
abbrev scX : Memref sig .tc .vmem S8x2304 .f32 := Memref.whole cc1_scratch0
/-- The scratch that carries the running maxima of the gradients. -/
abbrev scDy : Memref sig .tc .vmem S8x2560 .f32 := Memref.whole cc1_scratch1

/-- A buffer of the core, at some contents. -/
abbrev anyBuf (c : Dev nD) (b : Ref sig .tc) : sProp 𝕄 :=
  iprop(∃ f : Buf (Elt F) ((c : Thread nD τ).loc b), ((c : Thread nD τ).loc b) ↦{fullShare} f)

/-- The other kernel's buffers, which this one leaves alone. -/
def others (c : Dev nD) : sProp 𝕄 :=
  iprop(anyBuf c cc0_stg1_0 ∗ anyBuf c cc0_stg1_1 ∗ anyBuf c cc0_stg2_0 ∗ anyBuf c cc0_stg2_1 ∗ anyBuf c cc0_scratch0
    ∗ anyBuf c cc0_stg0_0 ∗ anyBuf c cc0_stg3_0 ∗ anyBuf c cc0_stg4_0)

/-- What the launch hands the region: the scratches at anything, the other buffers, and the generator register. -/
theorem PhiA_eq (c : Dev nD) :
    (Pipeline.ΦA spec1 c : sProp 𝕄)
      = iprop(iprop((∃ d, owns (c : Thread nD τ) scX fullShare d) ∗ (∃ d, owns (c : Thread nD τ) scDy fullShare d) ∗ others c)
          ∗ (∃ r, prngReg c r)) := by
  unfold Pipeline.ΦA
  rw [Pipeline.scopedRest_eq_of_list spec1 c [cc1_scratch0, cc1_scratch1, cc0_stg1_0, cc0_stg1_1, cc0_stg2_0, cc0_stg2_1, cc0_scratch0,
    cc0_stg0_0, cc0_stg3_0, cc0_stg4_0] (by decide) (by decide)]
  simp only [scX, scDy, owns_whole]; rfl
end Cert.KernelIdeal.Linear
end
-- ==== Proof.LinearRun.lean ====
module
public import proofs.«01_k».proof.Proof.LinearSetup
public import proofs.«01_k».proof.Proof.Ladder
public import proofs.«01_k».proof.Proof.Reads
@[expose] public section
set_option maxRecDepth 16384
/-!
# One grid point of the linear layer's kernel

What one run of the body leaves in each of its buffers, in the three cases of the grid point: the first, one
between, the last.
-/
noncomputable section
namespace Cert.KernelIdeal.Linear
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (UR sig nD τ) ℕ

/-- The bits of the constant the activations' history is multiplied by, near 1/448. -/
abbrev perMaxX : BitVec 32 := 0x3B124925#32
/-- The bits of the constant the gradients' history is multiplied by, near 1/57344. -/
abbrev perMaxDy : BitVec 32 := 0x37924925#32
/-- The one entry of a buffer of one entry. -/
def only (s : Vec F S1 .f32) : F .f32 := s (Shape.Idx.first (by decide))
/-- The scale of the activations. -/
def xScale (hx : Vec F S16 .f32) : F .f32 := scaleOf perMaxX (histMax hx)
/-- The scale of the gradients. -/
def dyScale (hdy : Vec F S16 .f32) : F .f32 := scaleOf perMaxDy (histMax hdy)
/-- The codes of a block of activations. -/
def xCodes (hx : Vec F S16 .f32) (x : Vec F S512x2304 .bf16) : Vec F S512x2304 .fp8e4m3 := k1_pay55 (invOf perMaxX (histMax hx)) x
/-- The codes of a block of gradients. -/
def dyCodes (hdy : Vec F S16 .f32) (dy : Vec F S512x2560 .bf16) : Vec F S512x2560 .fp8e5m2 := k1_pay56 (invOf perMaxDy (histMax hdy)) dy
/-- The block of outputs: codes times weight codes, times the two scales. -/
def yOut (hx : Vec F S16 .f32) (ws : Vec F S1 .f32) (x : Vec F S512x2304 .bf16) (wq : Vec F S2304x2560 .fp8e4m3) : Vec F S64x8x2560 .bf16 :=
  k1_pay3 (xScale hx) (only ws) (xCodes hx x) wq
/-- The block of input gradients. -/
def dxOut (hdy : Vec F S16 .f32) (ws : Vec F S1 .f32) (dy : Vec F S512x2560 .bf16) (wq : Vec F S2304x2560 .fp8e4m3) : Vec F S64x8x2304 .bf16 :=
  k1_pay4 (dyScale hdy) (only ws) (dyCodes hdy dy) wq
/-- The weight gradient before the first block: zero. -/
def dw0 : Vec F S2304x2560 .f32 := k1_pay50
/-- The weight gradient with one block's product added. -/
def dwStep (hx hdy : Vec F S16 .f32) (x : Vec F S512x2304 .bf16) (dy : Vec F S512x2560 .bf16) (d : Vec F S2304x2560 .f32) : Vec F S2304x2560 .f32 :=
  k1_pay5 (xCodes hx x) (dyCodes hdy dy) d
/-- The weight gradient times the two scales. -/
def dwEnd (hx hdy : Vec F S16 .f32) (d : Vec F S2304x2560 .f32) : Vec F S2304x2560 .f32 := k1_pay6 (xScale hx) (dyScale hdy) d
/-- The running maximum of the activations before the first block: zero. -/
def accX0 : Vec F S8x2304 .f32 := k1_pay51
/-- The same after one block more. -/
def accXStep (x : Vec F S512x2304 .bf16) (s : Vec F S8x2304 .f32) : Vec F S8x2304 .f32 := k1_pay57 x s
/-- The running maximum of the gradients before the first block: zero. -/
def accDy0 : Vec F S8x2560 .f32 := k1_pay52
/-- The same after one block more. -/
def accDyStep (dy : Vec F S512x2560 .bf16) (s : Vec F S8x2560 .f32) : Vec F S8x2560 .f32 := k1_pay1 (k1_pay58 dy s)
/-- The moved history of the activations. -/
def newHistX (hx : Vec F S16 .f32) (s : Vec F S8x2304 .f32) : Vec F S16 .f32 := pushHist hx (k1_pay7 s)
/-- The moved history of the gradients. -/
def newHistDy (hdy : Vec F S16 .f32) (s : Vec F S8x2560 .f32) : Vec F S16 .f32 := pushHist hdy (k1_pay8 s)

variable (c : Dev nD) (i : grid1.Coords)
  (arg1 : Memref sig .tc .smem S16 .f32) (harg1 : arg1.IsWhole)
  (arg2 : Memref sig .tc .smem S16 .f32) (harg2 : arg2.IsWhole)
  (arg3 : Memref sig .tc .smem S1 .f32) (harg3 : arg3.IsWhole)
  (arg4 : Memref sig .tc .vmem S512x2304 .bf16) (harg4 : arg4.IsWhole)
  (arg5 : Memref sig .tc .vmem S512x2560 .bf16) (harg5 : arg5.IsWhole)
  (arg6 : Memref sig .tc .vmem S2304x2560 .fp8e4m3) (harg6 : arg6.IsWhole)
  (arg7 : Memref sig .tc .vmem S64x8x2560 .bf16) (harg7 : arg7.IsWhole)
  (arg8 : Memref sig .tc .vmem S64x8x2304 .bf16) (harg8 : arg8.IsWhole)
  (arg9 : Memref sig .tc .vmem S2304x2560 .f32) (harg9 : arg9.IsWhole)
  (arg10 : Memref sig .tc .vmem S512x2304 .fp8e4m3) (harg10 : arg10.IsWhole)
  (arg11 : Memref sig .tc .vmem S512x2560 .fp8e5m2) (harg11 : arg11.IsWhole)
  (arg12 : Memref sig .tc .smem S1 .f32) (harg12 : arg12.IsWhole)
  (arg13 : Memref sig .tc .smem S1 .f32) (harg13 : arg13.IsWhole)
  (arg14 : Memref sig .tc .smem S16 .f32) (harg14 : arg14.IsWhole)
  (arg15 : Memref sig .tc .smem S16 .f32) (harg15 : arg15.IsWhole)
  (arg16 : Memref sig .tc .vmem S8x2304 .f32) (harg16 : arg16.IsWhole)
  (arg17 : Memref sig .tc .vmem S8x2560 .f32) (harg17 : arg17.IsWhole)
  (hx : Vec F S16 .f32)
  (hdy : Vec F S16 .f32)
  (ws : Vec F S1 .f32)
  (x : Vec F S512x2304 .bf16)
  (dy : Vec F S512x2560 .bf16)
  (wq : Vec F S2304x2560 .fp8e4m3)
  (d : Vec F S2304x2560 .f32)
  (sx : Vec F S8x2304 .f32)
  (sdy : Vec F S8x2560 .f32)

set_option maxHeartbeats 4000000 in
/-- The body at the first point. -/
theorem firstPoint (hc0 : condFirst i) (hc1 : ¬condLast i) (E : Set ℕ) (K : PUnit → sProp 𝕄) :
    iprop(owns (c : Thread nD τ) arg1 fullShare hx ∗ owns (c : Thread nD τ) arg2 fullShare hdy ∗ owns (c : Thread nD τ) arg3 fullShare ws ∗ owns (c : Thread nD τ) arg4 fullShare x ∗ owns (c : Thread nD τ) arg5 fullShare dy ∗ owns (c : Thread nD τ) arg6 fullShare wq ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg16 fullShare d) ∗ (∃ d, owns (c : Thread nD τ) arg17 fullShare d)
        ∗ (iprop(owns (c : Thread nD τ) arg1 fullShare hx ∗ owns (c : Thread nD τ) arg2 fullShare hdy ∗ owns (c : Thread nD τ) arg3 fullShare ws ∗ owns (c : Thread nD τ) arg4 fullShare x ∗ owns (c : Thread nD τ) arg5 fullShare dy ∗ owns (c : Thread nD τ) arg6 fullShare wq ∗ owns (c : Thread nD τ) arg7 fullShare (yOut hx ws x wq) ∗ owns (c : Thread nD τ) arg8 fullShare (dxOut hdy ws dy wq) ∗ owns (c : Thread nD τ) arg9 fullShare (dwStep hx hdy x dy dw0) ∗ owns (c : Thread nD τ) arg10 fullShare (xCodes hx x) ∗ owns (c : Thread nD τ) arg11 fullShare (dyCodes hdy dy) ∗ owns (c : Thread nD τ) arg16 fullShare (accXStep x accX0) ∗ owns (c : Thread nD τ) arg17 fullShare (accDyStep dy accDy0)) -∗ K ⟨⟩))
      ⊢ wp frame (wpE (defs₀ (F := F)) Variants.none c none) E
          (cc1_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_fp8_linear_eq_skeleton]; unfold cc1_fp8_linear_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  have hl1 := load_cell harg1 hx
  have hl2 := load_cell harg2 hdy
  have hl3 := load_whole harg3 ws ![0] inb_S1_S1_0
  have hl4 := load_whole harg4 x ![0, 0] inb_S512x2304_S512x2304_0_0
  have hl5 := load_whole harg5 dy ![0, 0] inb_S512x2560_S512x2560_0_0
  have hl6 := load_whole harg6 wq ![0, 0] inb_S2304x2560_S2304x2560_0_0
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d16, %f16, -, H16⟩, ⟨%d17, %f17, -, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_full arg7.view _ _ _ _).trans ?_
    sl_kernel_rfl
  isplitl [H8]
  · iexists _; isplitr
    swap; · iexact H8
    ipureintro
    refine (View.read_writes_full arg8.view _ _ _ _).trans ?_
    sl_kernel_rfl
  isplitl [H9]
  · iexists _; isplitr
    swap; · iexact H9
    ipureintro
    refine (View.read_writes_full arg9.view _ _ _ _).trans ?_
    refine (congrArg (k1_pay5 _ _) (View.readCov_full arg9.view _ _ _ _)).trans ?_
    sl_kernel_rfl
  isplitl [H10]
  · iexists _; isplitr
    swap; · iexact H10
    ipureintro
    refine (View.read_writes_full arg10.view _ _ _ _).trans ?_
    sl_kernel_rfl
  isplitl [H11]
  · iexists _; isplitr
    swap; · iexact H11
    ipureintro
    refine (View.read_writes_full arg11.view _ _ _ _).trans ?_
    sl_kernel_rfl
  isplitl [H16]
  · iexists _; isplitr
    swap; · iexact H16
    ipureintro
    refine (View.read_writes_full arg16.view _ _ _ _).trans ?_
    exact congrArg (k1_pay57 x) (View.readCov_full arg16.view _ _ _ _)
  · iexists _; isplitr
    swap; · iexact H17
    ipureintro
    refine (View.read_writes_full arg17.view _ _ _ _).trans ?_
    exact congrArg (fun s => k1_pay1 (k1_pay58 dy s)) (View.readCov_full arg17.view _ _ _ _)

set_option maxHeartbeats 4000000 in
/-- The body at a point between. -/
theorem midPoint (hc0 : ¬condFirst i) (hc1 : ¬condLast i) (E : Set ℕ) (K : PUnit → sProp 𝕄) :
    iprop(owns (c : Thread nD τ) arg1 fullShare hx ∗ owns (c : Thread nD τ) arg2 fullShare hdy ∗ owns (c : Thread nD τ) arg3 fullShare ws ∗ owns (c : Thread nD τ) arg4 fullShare x ∗ owns (c : Thread nD τ) arg5 fullShare dy ∗ owns (c : Thread nD τ) arg6 fullShare wq ∗ (∃ d, owns (c : Thread nD τ) arg7 fullShare d) ∗ (∃ d, owns (c : Thread nD τ) arg8 fullShare d) ∗ owns (c : Thread nD τ) arg9 fullShare d ∗ (∃ d, owns (c : Thread nD τ) arg10 fullShare d) ∗ (∃ d, owns (c : Thread nD τ) arg11 fullShare d) ∗ owns (c : Thread nD τ) arg16 fullShare sx ∗ owns (c : Thread nD τ) arg17 fullShare sdy
        ∗ (iprop(owns (c : Thread nD τ) arg1 fullShare hx ∗ owns (c : Thread nD τ) arg2 fullShare hdy ∗ owns (c : Thread nD τ) arg3 fullShare ws ∗ owns (c : Thread nD τ) arg4 fullShare x ∗ owns (c : Thread nD τ) arg5 fullShare dy ∗ owns (c : Thread nD τ) arg6 fullShare wq ∗ owns (c : Thread nD τ) arg7 fullShare (yOut hx ws x wq) ∗ owns (c : Thread nD τ) arg8 fullShare (dxOut hdy ws dy wq) ∗ owns (c : Thread nD τ) arg9 fullShare (dwStep hx hdy x dy d) ∗ owns (c : Thread nD τ) arg10 fullShare (xCodes hx x) ∗ owns (c : Thread nD τ) arg11 fullShare (dyCodes hdy dy) ∗ owns (c : Thread nD τ) arg16 fullShare (accXStep x sx) ∗ owns (c : Thread nD τ) arg17 fullShare (accDyStep dy sdy)) -∗ K ⟨⟩))
      ⊢ wp frame (wpE (defs₀ (F := F)) Variants.none c none) E
          (cc1_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_fp8_linear_eq_skeleton]; unfold cc1_fp8_linear_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  have hl1 := load_cell harg1 hx
  have hl2 := load_cell harg2 hdy
  have hl3 := load_whole harg3 ws ![0] inb_S1_S1_0
  have hl4 := load_whole harg4 x ![0, 0] inb_S512x2304_S512x2304_0_0
  have hl5 := load_whole harg5 dy ![0, 0] inb_S512x2560_S512x2560_0_0
  have hl6 := load_whole harg6 wq ![0, 0] inb_S2304x2560_S2304x2560_0_0
  have hl9 := load_whole harg9 d ![0, 0] inb_S2304x2560_S2304x2560_0_0
  have hl16 := load_whole harg16 sx ![0, 0] inb_S8x2304_S8x2304_0_0
  have hl17 := load_whole harg17 sdy ![0, 0] inb_S8x2560_S8x2560_0_0
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg16.eq_unread hf16; obtain rfl := harg17.eq_unread hf17
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_full arg7.view _ _ _ _).trans ?_
    sl_kernel_rfl
  isplitl [H8]
  · iexists _; isplitr
    swap; · iexact H8
    ipureintro
    refine (View.read_writes_full arg8.view _ _ _ _).trans ?_
    sl_kernel_rfl
  isplitl [H9]
  · iexists _; isplitr
    swap; · iexact H9
    ipureintro
    refine (View.read_writes_full arg9.view _ _ _ _).trans ?_
    sl_kernel_rfl
  isplitl [H10]
  · iexists _; isplitr
    swap; · iexact H10
    ipureintro
    refine (View.read_writes_full arg10.view _ _ _ _).trans ?_
    sl_kernel_rfl
  isplitl [H11]
  · iexists _; isplitr
    swap; · iexact H11
    ipureintro
    refine (View.read_writes_full arg11.view _ _ _ _).trans ?_
    sl_kernel_rfl
  isplitl [H16]
  · iexists _; isplitr
    swap; · iexact H16
    ipureintro
    refine (View.read_writes_full arg16.view _ _ _ _).trans ?_
    sl_kernel_rfl
  · iexists _; isplitr
    swap; · iexact H17
    ipureintro
    refine (View.read_writes_full arg17.view _ _ _ _).trans ?_
    sl_kernel_rfl

set_option maxHeartbeats 4000000 in
/-- The body at the last point. -/
theorem lastPoint (hc0 : ¬condFirst i) (hc1 : condLast i) (E : Set ℕ) (K : PUnit → sProp 𝕄) :
    iprop(owns (c : Thread nD τ) arg1 fullShare hx ∗ owns (c : Thread nD τ) arg2 fullShare hdy ∗ owns (c : Thread nD τ) arg3 fullShare ws ∗ owns (c : Thread nD τ) arg4 fullShare x ∗ owns (c : Thread nD τ) arg5 fullShare dy ∗ owns (c : Thread nD τ) arg6 fullShare wq ∗ (∃ d, owns (c : Thread nD τ) arg7 fullShare d) ∗ (∃ d, owns (c : Thread nD τ) arg8 fullShare d) ∗ owns (c : Thread nD τ) arg9 fullShare d ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare sx ∗ owns (c : Thread nD τ) arg17 fullShare sdy
        ∗ (iprop(owns (c : Thread nD τ) arg1 fullShare hx ∗ owns (c : Thread nD τ) arg2 fullShare hdy ∗ owns (c : Thread nD τ) arg3 fullShare ws ∗ owns (c : Thread nD τ) arg4 fullShare x ∗ owns (c : Thread nD τ) arg5 fullShare dy ∗ owns (c : Thread nD τ) arg6 fullShare wq ∗ owns (c : Thread nD τ) arg7 fullShare (yOut hx ws x wq) ∗ owns (c : Thread nD τ) arg8 fullShare (dxOut hdy ws dy wq) ∗ owns (c : Thread nD τ) arg9 fullShare (dwEnd hx hdy (dwStep hx hdy x dy d)) ∗ owns (c : Thread nD τ) arg10 fullShare (xCodes hx x) ∗ owns (c : Thread nD τ) arg11 fullShare (dyCodes hdy dy) ∗ owns (c : Thread nD τ) arg12 fullShare (fun _ => xScale hx) ∗ owns (c : Thread nD τ) arg13 fullShare (fun _ => dyScale hdy) ∗ owns (c : Thread nD τ) arg14 fullShare (newHistX hx (accXStep x sx)) ∗ owns (c : Thread nD τ) arg15 fullShare (newHistDy hdy (accDyStep dy sdy)) ∗ owns (c : Thread nD τ) arg16 fullShare (accXStep x sx) ∗ owns (c : Thread nD τ) arg17 fullShare (accDyStep dy sdy)) -∗ K ⟨⟩))
      ⊢ wp frame (wpE (defs₀ (F := F)) Variants.none c none) E
          (cc1_fp8_linear i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1_fp8_linear_eq_skeleton]; unfold cc1_fp8_linear_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  have hl1 := load_cell harg1 hx
  have hl2 := load_cell harg2 hdy
  have hl3 := load_whole harg3 ws ![0] inb_S1_S1_0
  have hl4 := load_whole harg4 x ![0, 0] inb_S512x2304_S512x2304_0_0
  have hl5 := load_whole harg5 dy ![0, 0] inb_S512x2560_S512x2560_0_0
  have hl6 := load_whole harg6 wq ![0, 0] inb_S2304x2560_S2304x2560_0_0
  have hl9 := load_whole harg9 d ![0, 0] inb_S2304x2560_S2304x2560_0_0
  have hl16 := load_whole harg16 sx ![0, 0] inb_S8x2304_S8x2304_0_0
  have hl17 := load_whole harg17 sdy ![0, 0] inb_S8x2560_S8x2560_0_0
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg16.eq_unread hf16; obtain rfl := harg17.eq_unread hf17
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (View.read_writes_full arg7.view _ _ _ _).trans ?_
    sl_kernel_rfl
  isplitl [H8]
  · iexists _; isplitr
    swap; · iexact H8
    ipureintro
    refine (View.read_writes_full arg8.view _ _ _ _).trans ?_
    sl_kernel_rfl
  isplitl [H9]
  · iexists _; isplitr
    swap; · iexact H9
    ipureintro
    refine (View.read_writes_full arg9.view _ _ _ _).trans ?_
    refine (congrArg (k1_pay6 _ _) (View.readCov_full arg9.view _ _ _ _)).trans ?_
    sl_kernel_rfl
  isplitl [H10]
  · iexists _; isplitr
    swap; · iexact H10
    ipureintro
    refine (View.read_writes_full arg10.view _ _ _ _).trans ?_
    sl_kernel_rfl
  isplitl [H11]
  · iexists _; isplitr
    swap; · iexact H11
    ipureintro
    refine (View.read_writes_full arg11.view _ _ _ _).trans ?_
    sl_kernel_rfl
  isplitl [H12]
  · iexists _; isplitr
    swap; · iexact H12
    ipureintro
    refine (View.read_writes_full arg12.view _ _ _ _).trans ?_
    sl_kernel_rfl
  isplitl [H13]
  · iexists _; isplitr
    swap; · iexact H13
    ipureintro
    refine (View.read_writes_full arg13.view _ _ _ _).trans ?_
    sl_kernel_rfl
  isplitl [H14]
  · iexists _; isplitr
    swap; · iexact H14
    ipureintro
    refine (read_pushHist arg14.view f14 hx _).trans (congrArg (pushHist hx) ?_)
    exact congrArg k1_pay7 (View.readCov_full arg16.view _ _ _ _)
  isplitl [H15]
  · iexists _; isplitr
    swap; · iexact H15
    ipureintro
    refine (read_pushHist arg15.view f15 hdy _).trans (congrArg (pushHist hdy) ?_)
    exact congrArg k1_pay8 (View.readCov_full arg17.view _ _ _ _)
  isplitl [H16]
  · iexists _; isplitr
    swap; · iexact H16
    ipureintro
    refine (View.read_writes_full arg16.view _ _ _ _).trans ?_
    sl_kernel_rfl
  · iexists _; isplitr
    swap; · iexact H17
    ipureintro
    refine (View.read_writes_full arg17.view _ _ _ _).trans ?_
    sl_kernel_rfl

end Cert.KernelIdeal.Linear
end
-- ==== Proof.LinearRegion.lean ====
module
public import proofs.«01_k».proof.Proof.LinearRun
@[expose] public section
set_option maxRecDepth 16384
/-!
# The linear layer's kernel over its grid

The proof data of the second pipeline, over any contents `V` of the arrays at its start: what every window's buffer
holds after every point, the weight gradient that grows in its window and the running maxima the scratches carry from
point to point, and the body's obligation at every point.
-/
noncomputable section
namespace Cert.KernelIdeal.Linear
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-- The weight gradient, not yet scaled, after the first `n` blocks. -/
def dwAt (c : Dev nD) : ℕ → Vec F S2304x2560 .f32
  | 0 => dw0
  | n + 1 => if h : n < cfg1.N then
      dwStep (iblk V c 0 ⟨n, h⟩) (iblk V c 1 ⟨n, h⟩) (iblk V c 3 ⟨n, h⟩) (iblk V c 4 ⟨n, h⟩) (dwAt c n) else dwAt c n

/-- The running maximum of the activations after the first `n` blocks. -/
def accXAt (c : Dev nD) : ℕ → Vec F S8x2304 .f32
  | 0 => accX0
  | n + 1 => if h : n < cfg1.N then accXStep (iblk V c 3 ⟨n, h⟩) (accXAt c n) else accXAt c n

/-- The running maximum of the gradients after the first `n` blocks. -/
def accDyAt (c : Dev nD) : ℕ → Vec F S8x2560 .f32
  | 0 => accDy0
  | n + 1 => if h : n < cfg1.N then accDyStep (iblk V c 4 ⟨n, h⟩) (accDyAt c n) else accDyAt c n

theorem dwAt_succ (c : Dev nD) (t : Fin cfg1.N) :
    dwAt V c (t.val + 1) = dwStep (iblk V c 0 t) (iblk V c 1 t) (iblk V c 3 t) (iblk V c 4 t) (dwAt V c t.val) := by
  rw [dwAt, dif_pos t.isLt]
theorem accXAt_succ (c : Dev nD) (t : Fin cfg1.N) : accXAt V c (t.val + 1) = accXStep (iblk V c 3 t) (accXAt V c t.val) := by
  rw [accXAt, dif_pos t.isLt]
theorem accDyAt_succ (c : Dev nD) (t : Fin cfg1.N) : accDyAt V c (t.val + 1) = accDyStep (iblk V c 4 t) (accDyAt V c t.val) := by
  rw [accDyAt, dif_pos t.isLt]

/-- The invariant before position `n`: before the first point what the launch hands over, afterwards the scratches at the
    running maxima, the other buffers and the generator register at anything. -/
def PhiS (c : Dev nD) : ℕ → sProp 𝕄
  | 0 => Pipeline.ΦA spec1 c
  | n + 1 => iprop(iprop(owns (c : Thread nD τ) scX fullShare (accXAt V c (n + 1)) ∗ owns (c : Thread nD τ) scDy fullShare (accDyAt V c (n + 1))
      ∗ others c) ∗ (∃ r, prngReg c r))

theorem PhiS_pos (c : Dev nD) (n : ℕ) (hz : n ≠ 0) :
    PhiS V c n = iprop(iprop(owns (c : Thread nD τ) scX fullShare (accXAt V c n) ∗ owns (c : Thread nD τ) scDy fullShare (accDyAt V c n)
      ∗ others c) ∗ (∃ r, prngReg c r)) := by
  cases n with
  | zero => exact absurd rfl hz
  | succ n => rfl

/-- The proof data: the arrays as the region finds them; after the body at a point the inputs' buffers at their blocks
    and the outputs' at the values of the point. -/
def dats (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => yOut (iblk V c 0 t) (iblk V c 2 t) (iblk V c 3 t) (iblk V c 5 t)
    | ⟨7, _⟩ => dxOut (iblk V c 1 t) (iblk V c 2 t) (iblk V c 4 t) (iblk V c 5 t)
    | ⟨8, _⟩ => if t.val = 15 then dwEnd (iblk V c 0 t) (iblk V c 1 t) (dwAt V c (t.val + 1)) else dwAt V c (t.val + 1)
    | ⟨9, _⟩ => xCodes (iblk V c 0 t) (iblk V c 3 t)
    | ⟨10, _⟩ => dyCodes (iblk V c 1 t) (iblk V c 4 t)
    | ⟨11, _⟩ => fun _ => xScale (iblk V c 0 t)
    | ⟨12, _⟩ => fun _ => dyScale (iblk V c 1 t)
    | ⟨13, _⟩ => newHistX (iblk V c 0 t) (accXAt V c (t.val + 1))
    | ⟨14, _⟩ => newHistDy (iblk V c 1 t) (accDyAt V c (t.val + 1))
  Φ t := PhiS V c t.val
  q _ := fullShare
  owed _ := 0

theorem A_eq (c : Dev nD) (w : Fin cfg1.W) : (dats V c).A w = V c (Pipeline.arrRef spec1 w) := by dsimp only [dats]
theorem after_0 (c : Dev nD) (t : Fin cfg1.N) : (dats V c).after 0 t = (iblk V c 0 t) := by dsimp only [dats]
theorem after_1 (c : Dev nD) (t : Fin cfg1.N) : (dats V c).after 1 t = (iblk V c 1 t) := by dsimp only [dats]
theorem after_2 (c : Dev nD) (t : Fin cfg1.N) : (dats V c).after 2 t = (iblk V c 2 t) := by dsimp only [dats]
theorem after_3 (c : Dev nD) (t : Fin cfg1.N) : (dats V c).after 3 t = (iblk V c 3 t) := by dsimp only [dats]
theorem after_4 (c : Dev nD) (t : Fin cfg1.N) : (dats V c).after 4 t = (iblk V c 4 t) := by dsimp only [dats]
theorem after_5 (c : Dev nD) (t : Fin cfg1.N) : (dats V c).after 5 t = (iblk V c 5 t) := by dsimp only [dats]
theorem after_6 (c : Dev nD) (t : Fin cfg1.N) : (dats V c).after 6 t = (yOut (iblk V c 0 t) (iblk V c 2 t) (iblk V c 3 t) (iblk V c 5 t)) := by dsimp only [dats]
theorem after_7 (c : Dev nD) (t : Fin cfg1.N) : (dats V c).after 7 t = (dxOut (iblk V c 1 t) (iblk V c 2 t) (iblk V c 4 t) (iblk V c 5 t)) := by dsimp only [dats]
theorem after_8 (c : Dev nD) (t : Fin cfg1.N) : (dats V c).after 8 t = (if t.val = 15 then dwEnd (iblk V c 0 t) (iblk V c 1 t) (dwAt V c (t.val + 1)) else dwAt V c (t.val + 1)) := by dsimp only [dats]
theorem after_9 (c : Dev nD) (t : Fin cfg1.N) : (dats V c).after 9 t = (xCodes (iblk V c 0 t) (iblk V c 3 t)) := by dsimp only [dats]
theorem after_10 (c : Dev nD) (t : Fin cfg1.N) : (dats V c).after 10 t = (dyCodes (iblk V c 1 t) (iblk V c 4 t)) := by dsimp only [dats]
theorem after_11 (c : Dev nD) (t : Fin cfg1.N) : (dats V c).after 11 t = (fun _ => xScale (iblk V c 0 t)) := by dsimp only [dats]
theorem after_12 (c : Dev nD) (t : Fin cfg1.N) : (dats V c).after 12 t = (fun _ => dyScale (iblk V c 1 t)) := by dsimp only [dats]
theorem after_13 (c : Dev nD) (t : Fin cfg1.N) : (dats V c).after 13 t = (newHistX (iblk V c 0 t) (accXAt V c (t.val + 1))) := by dsimp only [dats]
theorem after_14 (c : Dev nD) (t : Fin cfg1.N) : (dats V c).after 14 t = (newHistDy (iblk V c 1 t) (accDyAt V c (t.val + 1))) := by dsimp only [dats]
theorem before_0 (c : Dev nD) (t : Fin cfg1.N) (d) : (dats V c).before 0 t d = iblk V c 0 t :=
  before0_of V (dats V c) (A_eq V c 0) (after_0 V c) t d
theorem before_1 (c : Dev nD) (t : Fin cfg1.N) (d) : (dats V c).before 1 t d = iblk V c 1 t :=
  before1_of V (dats V c) (A_eq V c 1) (after_1 V c) t d
theorem before_2 (c : Dev nD) (t : Fin cfg1.N) (d) : (dats V c).before 2 t d = iblk V c 2 t :=
  before2_of V (dats V c) (A_eq V c 2) (after_2 V c) t d
theorem before_3 (c : Dev nD) (t : Fin cfg1.N) (d) : (dats V c).before 3 t d = iblk V c 3 t :=
  before3_of V (dats V c) (A_eq V c 3) (after_3 V c) t d
theorem before_4 (c : Dev nD) (t : Fin cfg1.N) (d) : (dats V c).before 4 t d = iblk V c 4 t :=
  before4_of V (dats V c) (A_eq V c 4) (after_4 V c) t d
theorem before_5 (c : Dev nD) (t : Fin cfg1.N) (d) : (dats V c).before 5 t d = iblk V c 5 t :=
  before5_of V (dats V c) (A_eq V c 5) (after_5 V c) t d
/-- The weight gradient's buffer holds after the first point what the point before left. -/
theorem before_8 (c : Dev nD) (t : Fin cfg1.N) (h0 : t.val ≠ 0) (d) : (dats V c).before 8 t d = dwAt V c t.val := by
  have hN : t.val < 16 := lt_of_lt_of_eq t.isLt (show cfg1.N = 16 from N_1)
  rw [Dat.before_out_kept _ 8 rfl t (by omega) (Bool.eq_false_iff.mpr fun h => by have := (flush1_8 _).mp h; dsimp only at this; omega)
    (fun _ => rfl) (fun _ _ => rfl), after_8]
  dsimp only
  rw [if_neg (by omega), Nat.sub_add_cancel (by omega)]

theorem Phi_castSucc (c : Dev nD) (t : Fin cfg1.N) : (dats V c).Φ t.castSucc = PhiS V c t.val := by
  dsimp only [dats]; rfl

/-- What the body is called with at point `t`, the windows one by one, -/
def bodyPre (c : Dev nD) (t : Fin cfg1.N) : sProp 𝕄 :=
  iprop((dats V c).Φ t.castSucc ∗ (dats V c).owesAt () t.castSucc
    ∗ (∃ d, owns (c : Thread nD τ) (ms0 t) fullShare ((dats V c).before 0 t d))
    ∗ (∃ d, owns (c : Thread nD τ) (ms1 t) fullShare ((dats V c).before 1 t d))
    ∗ (∃ d, owns (c : Thread nD τ) (ms2 t) fullShare ((dats V c).before 2 t d))
    ∗ (∃ d, owns (c : Thread nD τ) (ms3 t) fullShare ((dats V c).before 3 t d))
    ∗ (∃ d, owns (c : Thread nD τ) (ms4 t) fullShare ((dats V c).before 4 t d))
    ∗ (∃ d, owns (c : Thread nD τ) (ms5 t) fullShare ((dats V c).before 5 t d))
    ∗ (∃ d, owns (c : Thread nD τ) (ms6 t) fullShare ((dats V c).before 6 t d))
    ∗ (∃ d, owns (c : Thread nD τ) (ms7 t) fullShare ((dats V c).before 7 t d))
    ∗ (∃ d, owns (c : Thread nD τ) (ms8 t) fullShare ((dats V c).before 8 t d))
    ∗ (∃ d, owns (c : Thread nD τ) (ms9 t) fullShare ((dats V c).before 9 t d))
    ∗ (∃ d, owns (c : Thread nD τ) (ms10 t) fullShare ((dats V c).before 10 t d))
    ∗ (∃ d, owns (c : Thread nD τ) (ms11 t) fullShare ((dats V c).before 11 t d))
    ∗ (∃ d, owns (c : Thread nD τ) (ms12 t) fullShare ((dats V c).before 12 t d))
    ∗ (∃ d, owns (c : Thread nD τ) (ms13 t) fullShare ((dats V c).before 13 t d))
    ∗ (∃ d, owns (c : Thread nD τ) (ms14 t) fullShare ((dats V c).before 14 t d)))

/-- and what it returns. -/
def bodyPost (c : Dev nD) (t : Fin cfg1.N) : sProp 𝕄 :=
  iprop((dats V c).Φ t.succ ∗ (dats V c).owesAt () t.succ
    ∗ (dats V c).leavesExact 0 t
    ∗ (dats V c).leavesExact 1 t
    ∗ (dats V c).leavesExact 2 t
    ∗ (dats V c).leavesExact 3 t
    ∗ (dats V c).leavesExact 4 t
    ∗ (dats V c).leavesExact 5 t
    ∗ (dats V c).leavesExact 6 t
    ∗ (dats V c).leavesExact 7 t
    ∗ (dats V c).leavesExact 8 t
    ∗ (dats V c).leavesExact 9 t
    ∗ (dats V c).leavesExact 10 t
    ∗ (dats V c).leavesExact 11 t
    ∗ (dats V c).leavesExact 12 t
    ∗ (dats V c).leavesExact 13 t
    ∗ (dats V c).leavesExact 14 t)

/-! A live window's buffer is returned at what the body leaves. -/
theorem leaves_0 (c : Dev nD) (t : Fin cfg1.N) : (dats V c).leavesExact 0 t = owns (c : Thread nD τ) (ms0 t) fullShare (iblk V c 0 t) := by
  rw [← after_0]
theorem leaves_1 (c : Dev nD) (t : Fin cfg1.N) : (dats V c).leavesExact 1 t = owns (c : Thread nD τ) (ms1 t) fullShare (iblk V c 1 t) := by
  rw [← after_1]
theorem leaves_2 (c : Dev nD) (t : Fin cfg1.N) : (dats V c).leavesExact 2 t = owns (c : Thread nD τ) (ms2 t) fullShare (iblk V c 2 t) := by
  rw [← after_2]
theorem leaves_3 (c : Dev nD) (t : Fin cfg1.N) : (dats V c).leavesExact 3 t = owns (c : Thread nD τ) (ms3 t) fullShare (iblk V c 3 t) := by
  rw [← after_3]
theorem leaves_4 (c : Dev nD) (t : Fin cfg1.N) : (dats V c).leavesExact 4 t = owns (c : Thread nD τ) (ms4 t) fullShare (iblk V c 4 t) := by
  rw [← after_4]
theorem leaves_5 (c : Dev nD) (t : Fin cfg1.N) : (dats V c).leavesExact 5 t = owns (c : Thread nD τ) (ms5 t) fullShare (iblk V c 5 t) := by
  rw [← after_5]
theorem leaves_6 (c : Dev nD) (t : Fin cfg1.N) : (dats V c).leavesExact 6 t = owns (c : Thread nD τ) (ms6 t) fullShare (yOut (iblk V c 0 t) (iblk V c 2 t) (iblk V c 3 t) (iblk V c 5 t)) := by
  rw [← after_6]
theorem leaves_7 (c : Dev nD) (t : Fin cfg1.N) : (dats V c).leavesExact 7 t = owns (c : Thread nD τ) (ms7 t) fullShare (dxOut (iblk V c 1 t) (iblk V c 2 t) (iblk V c 4 t) (iblk V c 5 t)) := by
  rw [← after_7]
theorem leaves_8 (c : Dev nD) (t : Fin cfg1.N) : (dats V c).leavesExact 8 t = owns (c : Thread nD τ) (ms8 t) fullShare (if t.val = 15 then dwEnd (iblk V c 0 t) (iblk V c 1 t) (dwAt V c (t.val + 1)) else dwAt V c (t.val + 1)) := by
  rw [← after_8]
theorem leaves_9 (c : Dev nD) (t : Fin cfg1.N) : (dats V c).leavesExact 9 t = owns (c : Thread nD τ) (ms9 t) fullShare (xCodes (iblk V c 0 t) (iblk V c 3 t)) := by
  rw [← after_9]
theorem leaves_10 (c : Dev nD) (t : Fin cfg1.N) : (dats V c).leavesExact 10 t = owns (c : Thread nD τ) (ms10 t) fullShare (dyCodes (iblk V c 1 t) (iblk V c 4 t)) := by
  rw [← after_10]
theorem leaves_11 (c : Dev nD) (t : Fin cfg1.N) (h : condLast (grid1.coords t)) :
    (dats V c).leavesExact 11 t = owns (c : Thread nD τ) (ms11 t) fullShare (fun _ => xScale (iblk V c 0 t)) := by
  unfold Dat.leavesExact; rw [live11 t h, after_11]; rfl
theorem leaves_12 (c : Dev nD) (t : Fin cfg1.N) (h : condLast (grid1.coords t)) :
    (dats V c).leavesExact 12 t = owns (c : Thread nD τ) (ms12 t) fullShare (fun _ => dyScale (iblk V c 1 t)) := by
  unfold Dat.leavesExact; rw [live12 t h, after_12]; rfl
theorem leaves_13 (c : Dev nD) (t : Fin cfg1.N) (h : condLast (grid1.coords t)) :
    (dats V c).leavesExact 13 t = owns (c : Thread nD τ) (ms13 t) fullShare (newHistX (iblk V c 0 t) (accXAt V c (t.val + 1))) := by
  unfold Dat.leavesExact; rw [live13 t h, after_13]
theorem leaves_14 (c : Dev nD) (t : Fin cfg1.N) (h : condLast (grid1.coords t)) :
    (dats V c).leavesExact 14 t = owns (c : Thread nD τ) (ms14 t) fullShare (newHistDy (iblk V c 1 t) (accDyAt V c (t.val + 1))) := by
  unfold Dat.leavesExact; rw [live14 t h, after_14]

set_option maxHeartbeats 4000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dats V c).owesAt () t.succ = (dats V c).owesAt () t.castSucc from rfl]
  rw [show (dats V c).Φ t.succ = PhiS V c (t.val + 1) from rfl, Phi_castSucc, PhiS_pos V c (t.val + 1) (Nat.succ_ne_zero _)]
  rw [leaves_0, leaves_1, leaves_2, leaves_3, leaves_4, leaves_5, leaves_6, leaves_7, leaves_8, leaves_9, leaves_10, accXAt_succ, accDyAt_succ, dwAt_succ]
  have hN : t.val < 16 := lt_of_lt_of_eq t.isLt (show cfg1.N = 16 from N_1)
  by_cases h0 : t.val = 0
  · have hc0 := (hcondFirst t).mpr h0
    have hc1 : ¬condLast (grid1.coords t) := fun h => by have := (hcondLast t).mp h; omega
    rw [if_neg (by omega), Dat.leavesExact_idle (dats V c) 11 t (idle11 t hc1) (noFlush11 t hc1), Dat.leavesExact_idle (dats V c) 12 t (idle12 t hc1) (noFlush12 t hc1), Dat.leavesExact_idle (dats V c) 13 t (idle13 t hc1) (noFlush13 t hc1), Dat.leavesExact_idle (dats V c) 14 t (idle14 t hc1) (noFlush14 t hc1)]
    rw [h0, show PhiS V c 0 = Pipeline.ΦA spec1 c from rfl, PhiA_eq, show accXAt V c 0 = accX0 from rfl, show accDyAt V c 0 = accDy0 from rfl,
      show dwAt V c 0 = dw0 from rfl]
    iintro ⟨⟨⟨HX, HD, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (firstPoint c (grid1.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) hc0 hc1 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HX]; · iexact HX
    isplitl [HD]; · iexact HD
    iintro ⟨H0, H1, H2, H3, H4, H5, H6, H7, H8, H9, H10, HX, HD⟩
    isplitl [HX HD HR Hg]
    · isplitl [HX HD HR]
      · isplitl [HX]; · iexact HX
        isplitl [HD]; · iexact HD
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  · have hc0 : ¬condFirst (grid1.coords t) := fun h => h0 ((hcondFirst t).mp h)
    rw [PhiS_pos V c t.val h0]
    simp only [before_8 V c t h0]
    by_cases h1 : t.val = 15
    · have hc1 := (hcondLast t).mpr h1
      rw [leaves_11 V c t hc1, leaves_12 V c t hc1, leaves_13 V c t hc1, leaves_14 V c t hc1, accXAt_succ, accDyAt_succ, if_pos h1]
      iintro ⟨⟨⟨HX, HD, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (lastPoint c (grid1.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (dwAt V c t.val) (accXAt V c t.val) (accDyAt V c t.val) hc0 hc1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [H14]; · iexists _; iexact H14
      isplitl [HX]; · iexact HX
      isplitl [HD]; · iexact HD
      iintro ⟨H0, H1, H2, H3, H4, H5, H6, H7, H8, H9, H10, H11, H12, H13, H14, HX, HD⟩
      isplitl [HX HD HR Hg]
      · isplitl [HX HD HR]
        · isplitl [HX]; · iexact HX
          isplitl [HD]; · iexact HD
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · have hc1 : ¬condLast (grid1.coords t) := fun h => h1 ((hcondLast t).mp h)
      rw [if_neg h1, Dat.leavesExact_idle (dats V c) 11 t (idle11 t hc1) (noFlush11 t hc1), Dat.leavesExact_idle (dats V c) 12 t (idle12 t hc1) (noFlush12 t hc1), Dat.leavesExact_idle (dats V c) 13 t (idle13 t hc1) (noFlush13 t hc1), Dat.leavesExact_idle (dats V c) 14 t (idle14 t hc1) (noFlush14 t hc1)]
      iintro ⟨⟨⟨HX, HD, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (midPoint c (grid1.coords t) _ _ _ _ _ _ _ _ _ _ _ _ _ _ _ _ _ _ _ _ _ _ _ _ _ _ _ _ _ _ _ _ _ _ (iblk V c 0 t) (iblk V c 1 t) (iblk V c 2 t) (iblk V c 3 t) (iblk V c 4 t) (iblk V c 5 t) (dwAt V c t.val) (accXAt V c t.val) (accDyAt V c t.val) hc0 hc1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [H9]; · iexists _; iexact H9
      isplitl [H10]; · iexists _; iexact H10
      isplitl [HX]; · iexact HX
      isplitl [HD]; · iexact HD
      iintro ⟨H0, H1, H2, H3, H4, H5, H6, H7, H8, H9, H10, HX, HD⟩
      isplitl [HX HD HR Hg]
      · isplitl [HX HD HR]
        · isplitl [HX]; · iexact HX
          isplitl [HD]; · iexact HD
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      iexists _; iexact H14

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The pipeline's body obligation, at every point. -/
theorem body_obligation (c : Dev nD) : BodyObligation (dats V c) (defs₀ (F := F)) Variants.none () Set.univ := fun t => by
  rw [bigSep_W1, bigSep_W1, defs₀_row]
  exact triple_restated (sound_body V c t) rfl .rfl fun _ => .rfl

/-- What the launch hands the region is the invariant before the first point. -/
theorem hin (c : Dev nD) : Pipeline.ΦA spec1 c ⊢ (dats V c).Φ 0 := by
  rw [show (dats V c).Φ 0 = Pipeline.ΦA spec1 c from rfl]

/-- After the last point the invariant gives it back. -/
theorem hout (c : Dev nD) : (dats V c).Φ (Fin.last cfg1.N) ⊢ Pipeline.ΦA spec1 c := by
  rw [show (dats V c).Φ (Fin.last cfg1.N) = PhiS V c 16 from by dsimp only [dats]; rw [Fin.val_last, show cfg1.N = 16 from N_1],
    PhiS_pos V c 16 (by omega), PhiA_eq]
  iintro ⟨⟨HX, HD, HR⟩, Hg⟩
  isplitl [HX HD HR]
  · isplitl [HX]
    · iexists _; iexact HX
    isplitl [HD]
    · iexists _; iexact HD
    iexact HR
  iexact Hg
end Cert.KernelIdeal.Linear
end
-- ==== Proof.Run.lean ====
module
public import proofs.«01_k».proof.Proof.Gen.KernelIdeal.Launch
public import proofs.«01_k».proof.Proof.Gen.KernelIdeal.Regions
public import proofs.«01_k».proof.Proof.QuantRegion
public import proofs.«01_k».proof.Proof.LinearRegion
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
@[expose] public section
set_option maxRecDepth 16384
/-!
# The run of the whole program

The weight quantiser's pipeline, the two reshapes of the activations and gradients, and the linear layer's pipeline, one
after the other: what every array holds between them and at the end (`run`), and that the arguments are left as they
were (`frame`).
-/
noncomputable section
namespace Cert.KernelIdeal.Run
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The argument arrays. -/
abbrev argRefs : List (Ref sig .tc) := [main_arg0, main_arg1, main_arg2, main_arg3, main_arg4, main_arg5]
/-- Neither reshape writes an argument. -/
theorem hostOps1_args : ∀ a ∈ argRefs, a ∉ hostOps1_W := ListAll.forall_mem_of_all_decide (by decide +kernel)

/-! ## The buffer contents at each segment boundary: a fold through @main, and what each item leaves unchanged -/

/-- Core `c`'s buffers at launch (region 0's entry). -/
abbrev W0 : Dev nD → Valuation τ sig (Elt F) := fun c b => m (c, b)
theorem W0_args (c : Dev nD) : ∀ a ∈ argRefs, W0 m c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m c) fun w => (Quant.dats (V0 m) c).arrAt w cfg0.N
theorem W1_arr (c : Dev nD) (w : Fin cfg0.W) :
    W1 m c (Proc.devRef .tc (Pipeline.arrRef spec0 w)) = (Quant.dats (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A reference that is none of region 0's OUTPUT arrays keeps its entry contents across it: an input window's
    array is never written back (`Dat.arrAt_in`, `Quant.A_eq`); any other buffer is left as is. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((Quant.dats (V0 m) c).arrAt_in w (h w rfl) _).trans (Quant.A_eq (V0 m) c w))
  · exact W1_of_ne m c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
/-- The same read at the TensorCore's references (region 0's exit contents). -/
abbrev V1 : (c : Dev nD) → (b : Ref sig .tc) → Buf (Elt F) ((c : Thread nD τ).loc b) := fun c b => W1 m c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (Quant.dats (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After `hostOps1` (region 1's entry). -/
abbrev W2 : Dev nD → Valuation τ sig (Elt F) := fun c => StableHlo.after hostOps1 (W1 m c)
/-- A reference `hostOps1` does not write keeps its contents across it. -/
theorem W2_of (c : Dev nD) (r : Ref sig .tc) (h : r ∉ hostOps1_W) : W2 m c (Proc.devRef .tc r) = W1 m c (Proc.devRef .tc r) :=
  StableHlo.after_of_writes_sub hostOps1 _ hostOps1_writes h
theorem W2_args (c : Dev nD) : ∀ a ∈ argRefs, W2 m c (Proc.devRef .tc a) = m ((c : Thread nD τ).loc a) :=
  fun a ha => (W2_of m c a (hostOps1_args a ha)).trans (W1_args m c a ha)
/-- The same read at the TensorCore's references (what region 1's proof data take). -/
abbrev V2 : (c : Dev nD) → (b : Ref sig .tc) → Buf (Elt F) ((c : Thread nD τ).loc b) := fun c b => W2 m c b
/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m c) fun w => (Linear.dats (V2 m) c).arrAt w cfg1.N
theorem W3_arr (c : Dev nD) (w : Fin cfg1.W) :
    W3 m c (Proc.devRef .tc (Pipeline.arrRef spec1 w)) = (Linear.dats (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A reference that is none of region 1's OUTPUT arrays keeps its entry contents across it: an input window's
    array is never written back (`Dat.arrAt_in`, `Linear.A_eq`); any other buffer is left as is. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((Linear.dats (V2 m) c).arrAt_in w (h w rfl) _).trans (Linear.A_eq (V2 m) c w))
  · exact W3_of_ne m c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m c (Proc.devRef .tc a) = m ((c : Thread nD τ).loc a) :=
  fun a ha => (W3_of m c a (argsIn1 a ha)).trans (W2_args m c a ha)
/-- The same read at the TensorCore's references (region 1's exit contents). -/
abbrev V3 : (c : Dev nD) → (b : Ref sig .tc) → Buf (Elt F) ((c : Thread nD τ).loc b) := fun c b => W3 m c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (Linear.dats (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => Quant.dats (V0 m) c
  | ⟨1, _⟩ => fun c => Linear.dats (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Quant.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (Quant.A_eq (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Quant.hin (V0 m) c)
    unfold Pipeline.ΦA
    iintro ⟨Hp, -, Hr⟩
    isplitl [Hr]; · iexact Hr
    iexact Hp
  hout c := by
    rw [Pipeline.ownSems0_none]
    refine (Quant.hout (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) (Linear.A_eq (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Linear.hin (V2 m) c)
    unfold Pipeline.ΦA
    iintro ⟨Hp, -, Hr⟩
    isplitl [Hr]; · iexact Hr
    iexact Hp
  hout c := by
    rw [Pipeline.ownSems0_none]
    refine (Linear.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m) () defs₀ 𝒱₀ L lv) :=
  [ .region (reg0 m),
    .host (hseg hostOps1 hostOps1_sub hostOps1_fresh (W1 m)),
    .region (reg1 m) ]
/-- @main IS the run of the segments: `Gen.main_chain`, then the segments' run against that chain by the kernel's
    definitional check (`chain_rfl`). -/
theorem main_run (c : Dev nD) : main (F := F) c = Pipeline.Seg.run (segs m) := (main_chain c).trans (by chain_rfl)

-- the library theorem's implicit arguments are found by unifying its conclusion with this one, which takes unfolding
-- plain definitions in a metavariable's type
set_option backward.isDefEq.respectTransparency.types false in
/-- Every execution ends, with every array that outlives the kernels at the last boundary's contents and every
    semaphore counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W3 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h hz => ⟨h, funext fun g => hz g (.inr (regions_no_unscoped g.2))⟩)

/-- An array that outlives the kernels, read in a final state of `run`. -/
theorem mem_of_run {s : MemSt nD τ sig (Elt F)} (c : Dev nD)
    (h : ∀ b ∈ Pipeline.ucRefs τ sig, s.mem (((c : Thread nD τ)).1, b) = W3 m c b) (b : Ref sig .tc)
    (hb : ¬ (Proc.devRef .tc b : DevRef τ sig).isScoped) : s.mem ((c.tc : Thread nD τ).loc b) = W3 m c (Proc.devRef .tc b) :=
  h _ (mem_uc b hb)

/-- The arguments are left as they were, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have arg (a : Ref sig .tc) (ha : a ∈ argRefs) (hs : ¬ (Proc.devRef .tc a : DevRef τ sig).isScoped) :=
      (mem_of_run m c (h.1 c) a hs).trans (W3_args m c a ha)
    ⟨arg main_arg0 (by decide) (by decide), arg main_arg1 (by decide) (by decide), arg main_arg2 (by decide) (by decide), arg main_arg3 (by decide) (by decide), arg main_arg4 (by decide) (by decide), arg main_arg5 (by decide) (by decide)⟩, h.2⟩) (run m ρ)
end Cert.KernelIdeal.Run
end
-- ==== Proof.Frames.lean ====
module
public import proofs.«01_k».proof.Defs
public import proofs.«01_k».proof.Proof.Gen.Kernel
public import proofs.«01_k».proof.Proof.Gen.KernelIdeal
public import proofs.«01_k».proof.Proof.Run
public import Idealize.ShloMosaic.Lib.Exec
public import Idealize.ShloMosaic.Lib.Ring
@[expose] public section
set_option Elab.async false
set_option maxRecDepth 16384

/-!
# The frame of the kernel as printed

The kernel as printed and its idealization are one program text, read once at machine floats and once at exact
numbers. The run of `Cert.KernelIdeal` is proved for every reading of the floats, so it is carried to the printed kernel.
-/

namespace Cert.Frames
open Idealize.ShloMosaic Idealize.ShloMosaic.TcCoe Idealize.ShloMosaic.Tactic Idealize.SL.Sem

open Cert.KernelIdeal in
/-- The printed kernel's frame, said of the idealized kernel's program text at machine floats. -/
def FrameAtBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The two are one proposition. -/
theorem same : Cert.quiescent_Kernel (hKernel := Cert.Kernel.Gen.facts) = FrameAtBits := by sl_kernel_rfl

/-- The kernel as printed ends with its arguments as they were and every semaphore counter at zero. -/
theorem kernel : Cert.quiescent_Kernel (hKernel := Cert.Kernel.Gen.facts) := by
  rw [same]
  exact fun m g _ => Cert.KernelIdeal.Run.frame (F := Bits) m g

/-- The idealized kernel ends with its arguments as they were and every semaphore counter at zero. -/
theorem kernelIdeal : Cert.quiescent_KernelIdeal (hKernelIdeal := Cert.KernelIdeal.Gen.facts) :=
  fun m g _ => Cert.KernelIdeal.Run.frame (F := Ideal) m g

end Cert.Frames
-- ==== Proof.LadderValue.lean ====
module
public import proofs.«01_k».proof.Proof.Ladder
public import Idealize.ShloMosaic.PureOps.Ideal
public import Idealize.ShloMosaic.PureOps.Ideal.Laws
@[expose] public section
set_option maxRecDepth 16384
/-!
# What the ladder finds

Over the extended reals the ladder's scale is `2 ^ (e + 1)` for the exponent `e` of its number, held between -149 and
127; the reference counts the powers of two that are at most the number. Both are `2 ^ exponent`.
-/
noncomputable section
namespace Cert.Scale
open Idealize.ShloMosaic Cert.KernelIdeal

/-- A power of two. -/
def pow2 (e : ℤ) : EReal := (((2 : ℝ) ^ e : ℝ) : EReal)

theorem pow2_zero : pow2 0 = 1 := by simp [pow2]

/-- The absolute value of an extended real. -/
def mag (x : EReal) : EReal := max x (-x)

/-- How many of the powers `2 ^ -148 … 2 ^ 127` are at most `m`. -/
def count (m : EReal) : ℕ := (Finset.univ.filter fun k : Fin 276 => pow2 ((k.val : ℤ) - 148) ≤ m).card

/-- The exponent of the delayed scale for a history of maximum `a` and a reciprocal `K` of the format's greatest number:
    zero where `|a · K|` is zero or infinite, else the number of powers of two at most `|a · K|`, less 148. -/
def exponent (K a : EReal) : ℤ :=
  if a = 0 then 0 else if 0 < mag (a * K) ∧ mag (a * K) < ⊤ then (count (mag (a * K)) : ℤ) - 148 else 0

/-! ### The counting form -/

theorem exists_log2 (m : ℝ) (hm : 0 < m) : ∃ L : ℤ, ∀ k : ℤ, (2 : ℝ) ^ k ≤ m ↔ k ≤ L := by
  obtain ⟨L, h1, h2⟩ := exists_mem_Ico_zpow hm one_lt_two
  refine ⟨L, fun k => ⟨fun h => ?_, fun h => (zpow_le_zpow_right₀ one_le_two h).trans h1⟩⟩
  exact Int.lt_add_one_iff.mp ((zpow_lt_zpow_iff_right₀ one_lt_two).mp (h.trans_lt h2))

/-- The exponent of a positive real. -/
def log2 (m : ℝ) : ℤ := if h : 0 < m then (exists_log2 m h).choose else 0

/-- A power of two is at most a positive real exactly when its exponent is at most the real's. -/
theorem pow2_le (m : ℝ) (hm : 0 < m) (k : ℤ) : pow2 k ≤ (m : EReal) ↔ k ≤ log2 m := by
  rw [pow2, EReal.coe_le_coe_iff, log2, dif_pos hm]
  exact (exists_log2 m hm).choose_spec k

/-- The count for a real of exponent `L`. -/
theorem count_eq (m : ℝ) (hm : 0 < m) : (count (m : EReal) : ℤ) = max 0 (min 276 (log2 m + 149)) := by
  have h : (Finset.univ.filter fun k : Fin 276 => pow2 ((k.val : ℤ) - 148) ≤ (m : EReal))
      = Finset.univ.filter fun k : Fin 276 => k.val < (max 0 (min 276 (log2 m + 149))).toNat := by
    refine Finset.filter_congr fun k _ => ?_
    rw [pow2_le m hm]
    have := k.isLt
    omega
  rw [count, h]
  have hc : (Finset.univ.filter fun k : Fin 276 => k.val < (max 0 (min 276 (log2 m + 149))).toNat).card
      = (max 0 (min 276 (log2 m + 149))).toNat := by
    rw [Fin.card_filter_val_lt]
    omega
  rw [hc]
  omega

/-! ### The ladder -/

/-- Mantissa `m / 2 ^ u`, scale `2 ^ (u + 1)`, inverse scale `2 ^ (- u - 1)`. -/
def At (m : ℝ) (x : Climb Ideal) (u : ℤ) : Prop :=
  x.m = ((m * (2 : ℝ) ^ (-u) : ℝ) : EReal) ∧ x.s = pow2 (u + 1) ∧ x.r = pow2 (-u - 1)

/-- The step's bits are those of `2 ^ t`, of `2 ^ k` and of `2 ^ -k`. -/
def Means (q : Rung) (t k : ℤ) : Prop :=
  Ideal.ofBits .f32 q.test = pow2 t ∧ Ideal.ofBits .f32 q.mant = pow2 (-k) ∧ Ideal.ofBits .f32 q.scale = pow2 k

theorem pow2_mul (a b : ℤ) : pow2 a * pow2 b = pow2 (a + b) := by
  rw [pow2, pow2, pow2, ← EReal.coe_mul, zpow_add₀ two_ne_zero]

theorem scaled_le (m : ℝ) (hm : 0 < m) (u t : ℤ) : pow2 t ≤ ((m * (2 : ℝ) ^ (-u) : ℝ) : EReal) ↔ t + u ≤ log2 m := by
  rw [← pow2_le m hm, pow2, pow2, EReal.coe_le_coe_iff, EReal.coe_le_coe_iff, zpow_neg, ← div_eq_mul_inv,
    le_div_iff₀ (by positivity), zpow_add₀ two_ne_zero]

/-- A taken step of the mantissa. -/
theorem scaled_mul (m : ℝ) (u k : ℤ) : ((m * (2 : ℝ) ^ (-u) : ℝ) : EReal) * pow2 (-k) = ((m * (2 : ℝ) ^ (-(u + k)) : ℝ) : EReal) := by
  rw [pow2, ← EReal.coe_mul, mul_assoc, ← zpow_add₀ two_ne_zero, neg_add]

theorem select_pos {α : Type} {c : Bool} (h : c = true) (a b : α) : Scalar.select (BitVec.ofBool c) a b = a := by subst h; rfl
theorem select_neg {α : Type} {c : Bool} (h : c = false) (a b : α) : Scalar.select (BitVec.ofBool c) a b = b := by subst h; rfl

theorem At.up {m : ℝ} (hm : 0 < m) {x : Climb Ideal} {u k : ℤ} {q : Rung} (h : At m x u) (hq : Means q k k) :
    At m (x.up q) (if k + u ≤ log2 m then u + k else u) := by
  obtain ⟨h1, h2, h3⟩ := h
  obtain ⟨q1, q2, q3⟩ := hq
  have hc : Scalar.cmpf (F := Ideal) (φ := .f32) .oge x.m (Scalar.ofBits .f32 q.test) = BitVec.ofBool (decide (k + u ≤ log2 m)) := by
    show BitVec.ofBool (decide (Ideal.ofBits .f32 q.test ≤ x.m)) = _
    rw [q1, h1]; congr 1; exact decide_eq_decide.mpr (scaled_le m hm u k)
  unfold Climb.up
  rw [hc]
  by_cases hd : k + u ≤ log2 m
  · rw [if_pos hd]
    simp only [select_pos (decide_eq_true hd)]
    refine ⟨?_, ?_, ?_⟩
    · show x.m * Ideal.ofBits .f32 q.mant = _
      rw [h1, q2, scaled_mul]
    · show x.s * Ideal.ofBits .f32 q.scale = _
      rw [h2, q3, pow2_mul]; congr 1; omega
    · show x.r * Ideal.ofBits .f32 q.mant = _
      rw [h3, q2, pow2_mul]; congr 1; omega
  · rw [if_neg hd]
    simp only [select_neg (decide_eq_false hd)]
    exact ⟨h1, h2, h3⟩

theorem At.down {m : ℝ} (hm : 0 < m) {x : Climb Ideal} {u k : ℤ} {q : Rung} (h : At m x u) (hq : Means q (1 - k) (-k)) :
    At m (x.down q) (if 1 - k + u ≤ log2 m then u else u - k) := by
  obtain ⟨h1, h2, h3⟩ := h
  obtain ⟨q1, q2, q3⟩ := hq
  have hc : Scalar.cmpf (F := Ideal) (φ := .f32) .olt x.m (Scalar.ofBits .f32 q.test) = BitVec.ofBool (decide (¬ 1 - k + u ≤ log2 m)) := by
    show BitVec.ofBool (decide (x.m < Ideal.ofBits .f32 q.test)) = _
    rw [q1, h1]; congr 1; refine decide_eq_decide.mpr ?_
    rw [← scaled_le m hm u (1 - k), not_le]
  unfold Climb.down
  rw [hc]
  by_cases hd : 1 - k + u ≤ log2 m
  · rw [if_pos hd]
    simp only [select_neg (decide_eq_false (not_not.mpr hd))]
    exact ⟨h1, h2, h3⟩
  · rw [if_neg hd]
    simp only [select_pos (decide_eq_true hd)]
    refine ⟨?_, ?_, ?_⟩
    · show x.m * Ideal.ofBits .f32 q.mant = _
      rw [h1, q2, scaled_mul]; rfl
    · show x.s * Ideal.ofBits .f32 q.scale = _
      rw [h2, q3, pow2_mul]; congr 1; omega
    · show x.r * Ideal.ofBits .f32 q.mant = _
      rw [h3, q2, pow2_mul]; congr 1; omega

/-- All the steps up, -/
theorem At.ups {m : ℝ} (hm : 0 < m) {qs : List Rung} {ks : List ℤ} (hq : List.Forall₂ (fun q k => Means q k k) qs ks) :
    ∀ {x : Climb Ideal} {u : ℤ}, At m x u → At m (qs.foldl Climb.up x) (ks.foldl (fun u k => if k + u ≤ log2 m then u + k else u) u) := by
  induction hq with
  | nil => exact fun h => h
  | cons h _ ih => exact fun hx => ih (hx.up hm h)

/-- and all the steps down. -/
theorem At.downs {m : ℝ} (hm : 0 < m) {qs : List Rung} {ks : List ℤ} (hq : List.Forall₂ (fun q k => Means q (1 - k) (-k)) qs ks) :
    ∀ {x : Climb Ideal} {u : ℤ}, At m x u → At m (qs.foldl Climb.down x) (ks.foldl (fun u k => if 1 - k + u ≤ log2 m then u else u - k) u) := by
  induction hq with
  | nil => exact fun h => h
  | cons h _ ih => exact fun hx => ih (hx.down hm h)

/-- One step up on exponents: with at most `2 k` left of the clamped exponent `c`, at most `k` are left after it. -/
theorem up_step (L u k : ℤ) (hk : 0 < k) (hu : 0 ≤ u) (h1 : u ≤ max 0 (min 127 L)) (h2 : max 0 (min 127 L) < u + 2 * k) (h3 : u + 2 * k ≤ 128) :
    0 ≤ (if k + u ≤ L then u + k else u) ∧ (if k + u ≤ L then u + k else u) ≤ max 0 (min 127 L)
      ∧ max 0 (min 127 L) < (if k + u ≤ L then u + k else u) + k ∧ (if k + u ≤ L then u + k else u) + k ≤ 128 := by
  split_ifs <;> omega

/-- The steps up reach the exponent, from zero to 127; -/
theorem up_exponent (L : ℤ) : ([64, 32, 16, 8, 4, 2, 1] : List ℤ).foldl (fun u k => if k + u ≤ L then u + k else u) 0 = max 0 (min 127 L) := by
  simp only [List.foldl]
  obtain ⟨a1, b1, c1, d1⟩ := up_step L 0 64 (by omega) (by omega) (by omega) (by omega) (by omega)
  generalize (if 64 + 0 ≤ L then 0 + 64 else 0 : ℤ) = u1 at *
  obtain ⟨a2, b2, c2, d2⟩ := up_step L u1 32 (by omega) a1 b1 c1 d1
  generalize (if 32 + u1 ≤ L then u1 + 32 else u1 : ℤ) = u2 at *
  obtain ⟨a3, b3, c3, d3⟩ := up_step L u2 16 (by omega) a2 b2 c2 d2
  generalize (if 16 + u2 ≤ L then u2 + 16 else u2 : ℤ) = u3 at *
  obtain ⟨a4, b4, c4, d4⟩ := up_step L u3 8 (by omega) a3 b3 c3 d3
  generalize (if 8 + u3 ≤ L then u3 + 8 else u3 : ℤ) = u4 at *
  obtain ⟨a5, b5, c5, d5⟩ := up_step L u4 4 (by omega) a4 b4 c4 d4
  generalize (if 4 + u4 ≤ L then u4 + 4 else u4 : ℤ) = u5 at *
  obtain ⟨a6, b6, c6, d6⟩ := up_step L u5 2 (by omega) a5 b5 c5 d5
  generalize (if 2 + u5 ≤ L then u5 + 2 else u5 : ℤ) = u6 at *
  obtain ⟨a7, b7, c7, d7⟩ := up_step L u6 1 (by omega) a6 b6 c6 d6
  omega

/-- One step down on exponents: with less than `B` left down to the clamped exponent and the steps from here on adding up
    to `S`, less than `max k (B - k)` are left after it. -/
theorem down_step (L u k B S : ℤ) (hL : L < 0) (hk : 0 < k) (hS : k ≤ S) (h1 : max (-149) L ≤ u) (h2 : u - max (-149) L < B) (h3 : S - 149 ≤ u) :
    max (-149) L ≤ (if 1 - k + u ≤ L then u else u - k) ∧ (if 1 - k + u ≤ L then u else u - k) - max (-149) L < max k (B - k)
      ∧ S - k - 149 ≤ (if 1 - k + u ≤ L then u else u - k) := by
  split_ifs <;> omega

/-- the steps down bring it to the exponent, down to -149. -/
theorem down_exponent (L : ℤ) : ([64, 22, 32, 16, 8, 4, 2, 1] : List ℤ).foldl (fun u k => if 1 - k + u ≤ L then u else u - k) (max 0 (min 127 L))
    = max (-149) (min 127 L) := by
  simp only [List.foldl]
  by_cases h : 0 ≤ L
  · have hu : max 0 (min 127 L) = min 127 L := by omega
    rw [hu]
    rw [if_pos (by omega), if_pos (by omega), if_pos (by omega), if_pos (by omega), if_pos (by omega), if_pos (by omega), if_pos (by omega), if_pos (by omega)]
    omega
  · rw [show max 0 (min 127 L) = 0 by omega]
    have hL : L < 0 := by omega
    obtain ⟨a1, b1, c1⟩ := down_step L 0 64 150 149 hL (by omega) (by omega) (by omega) (by omega) (by omega)
    generalize (if 1 - 64 + 0 ≤ L then 0 else 0 - 64 : ℤ) = u1 at *
    obtain ⟨a2, b2, c2⟩ := down_step L u1 22 86 85 hL (by omega) (by omega) a1 (by omega) (by omega)
    generalize (if 1 - 22 + u1 ≤ L then u1 else u1 - 22 : ℤ) = u2 at *
    obtain ⟨a3, b3, c3⟩ := down_step L u2 32 64 63 hL (by omega) (by omega) a2 (by omega) (by omega)
    generalize (if 1 - 32 + u2 ≤ L then u2 else u2 - 32 : ℤ) = u3 at *
    obtain ⟨a4, b4, c4⟩ := down_step L u3 16 32 31 hL (by omega) (by omega) a3 (by omega) (by omega)
    generalize (if 1 - 16 + u3 ≤ L then u3 else u3 - 16 : ℤ) = u4 at *
    obtain ⟨a5, b5, c5⟩ := down_step L u4 8 16 15 hL (by omega) (by omega) a4 (by omega) (by omega)
    generalize (if 1 - 8 + u4 ≤ L then u4 else u4 - 8 : ℤ) = u5 at *
    obtain ⟨a6, b6, c6⟩ := down_step L u5 4 8 7 hL (by omega) (by omega) a5 (by omega) (by omega)
    generalize (if 1 - 4 + u5 ≤ L then u5 else u5 - 4 : ℤ) = u6 at *
    obtain ⟨a7, b7, c7⟩ := down_step L u6 2 4 3 hL (by omega) (by omega) a6 (by omega) (by omega)
    generalize (if 1 - 2 + u6 ≤ L then u6 else u6 - 2 : ℤ) = u7 at *
    obtain ⟨a8, b8, c8⟩ := down_step L u7 1 2 1 hL (by omega) (by omega) a7 (by omega) (by omega)
    omega

theorem bits_pow2 (b : BitVec 32) (e : ℤ) (h0 : b.extractLsb' 31 1 = 0#1) (hf : (b.extractLsb' 0 23).toNat = 0)
    (he : ((b.extractLsb' 23 8).toNat : ℤ) = e + 127) (h1 : 0 < (b.extractLsb' 23 8).toNat) (h2 : (b.extractLsb' 23 8).toNat < 255) :
    Ideal.ofBits .f32 b = pow2 e := by
  show Ideal.ieee 8 23 b = pow2 e
  unfold Ideal.ieee
  dsimp only
  rw [if_neg (by omega), if_neg (by omega), hf, he, h0]
  rw [pow2]
  congr 1
  have : (2 : ℝ) ^ (e + 127 - (2 ^ (8 - 1) - 1) - ((23 : ℕ) : ℤ)) = 2 ^ e / 2 ^ 23 := by
    rw [show e + 127 - (2 ^ (8 - 1) - 1) - ((23 : ℕ) : ℤ) = e - 23 by norm_num, zpow_sub₀ two_ne_zero]; norm_num
  rw [this]
  norm_num
  ring

theorem up_means : List.Forall₂ (fun q k => Means q k k) upSteps [64, 32, 16, 8, 4, 2, 1] := by
  unfold upSteps Means
  repeat' constructor
  all_goals exact bits_pow2 _ _ (by decide) (by decide) (by decide) (by decide) (by decide)

theorem down_means : List.Forall₂ (fun q k => Means q (1 - k) (-k)) downSteps [64, 22, 32, 16, 8, 4, 2, 1] := by
  unfold downSteps Means
  repeat' constructor
  all_goals exact bits_pow2 _ _ (by decide) (by decide) (by decide) (by decide) (by decide)

/-- Where the ladder from a positive real ends. -/
theorem climb_at (m : ℝ) (hm : 0 < m) : At m (climb (F := Ideal) (m : EReal)) (max (-149) (min 127 (log2 m))) := by
  have h0 : At m (⟨(m : EReal), Scalar.ofBits .f32 0x40000000#32, Scalar.ofBits .f32 0x3F000000#32⟩ : Climb Ideal) 0 :=
    ⟨by simp, bits_pow2 0x40000000#32 1 (by decide) (by decide) (by decide) (by decide) (by decide),
      bits_pow2 0x3F000000#32 (-0 - 1) (by decide) (by decide) (by decide) (by decide) (by decide)⟩
  have h := (h0.ups hm up_means).downs hm down_means
  rw [up_exponent, down_exponent] at h
  exact h

/-- A guarded number: one where the exponent is taken to be zero. -/
theorem guarded_eq (K : BitVec 32) (a v : EReal) (f : ℤ → ℤ) (hf : f 0 = 0)
    (hv : ∀ m : ℝ, 0 < m → start (F := Ideal) K a = (m : EReal) → v = pow2 (f ((count (m : EReal) : ℤ) - 148))) :
    guarded (F := Ideal) a (start K a) v = pow2 (f (exponent (Ideal.ofBits .f32 K) a)) := by
  have hs : start (F := Ideal) K a = mag (a * Ideal.ofBits .f32 K) := rfl
  have h1 : Scalar.ofBits (F := Ideal) .f32 0x3F800000#32 = pow2 0 := bits_pow2 0x3F800000#32 0 (by decide) (by decide) (by decide) (by decide) (by decide)
  have hz : Scalar.ofBits (F := Ideal) .f32 0x00000000#32 = (0 : EReal) := Ideal.ofBits_zero_f32
  have ht : Scalar.ofBits (F := Ideal) .f32 0x7F800000#32 = (⊤ : EReal) := by
    show Ideal.ofBits .f32 0x7F800000#32 = ⊤
    simp [Ideal.ofBits, Ideal.ieee]
  unfold guarded isNormal exponent
  rw [h1, hz, ht]
  show Scalar.select (BitVec.ofBool (decide (a = 0))) _ (Scalar.select (BitVec.ofBool (decide (0 < start (F := Ideal) K a)) &&& BitVec.ofBool (decide (start (F := Ideal) K a < ⊤))) v _) = _
  rw [hs] at *
  by_cases ha : a = 0
  · rw [select_pos (decide_eq_true ha), if_pos ha, hf]
  rw [select_neg (decide_eq_false ha), if_neg ha]
  have hand : (BitVec.ofBool (decide (0 < mag (a * Ideal.ofBits .f32 K))) &&& BitVec.ofBool (decide (mag (a * Ideal.ofBits .f32 K) < ⊤)))
      = BitVec.ofBool (decide (0 < mag (a * Ideal.ofBits .f32 K) ∧ mag (a * Ideal.ofBits .f32 K) < ⊤)) := by
    by_cases p : 0 < mag (a * Ideal.ofBits .f32 K) <;> by_cases q : mag (a * Ideal.ofBits .f32 K) < ⊤ <;> simp [p, q]
  rw [hand]
  by_cases hn : 0 < mag (a * Ideal.ofBits .f32 K) ∧ mag (a * Ideal.ofBits .f32 K) < ⊤
  · rw [select_pos (decide_eq_true hn), if_pos hn]
    obtain ⟨m, hm⟩ : ∃ m : ℝ, mag (a * Ideal.ofBits .f32 K) = (m : EReal) :=
      ⟨_, (EReal.coe_toReal hn.2.ne (ne_bot_of_gt hn.1)).symm⟩
    rw [hm] at hn ⊢
    exact hv m (by exact_mod_cast hn.1) hm
  · rw [select_neg (decide_eq_false hn), if_neg hn, hf]

/-- The scale the ladder finds, -/
theorem scaleOf_eq (K : BitVec 32) (a : EReal) : scaleOf (F := Ideal) K a = pow2 (exponent (Ideal.ofBits .f32 K) a) := by
  refine guarded_eq K a _ id rfl fun m hm hs => ?_
  rw [hs, (climb_at m hm).2.1, count_eq m hm]
  simp only [id]; congr 1; omega

/-- and the inverse scale. -/
theorem invOf_eq (K : BitVec 32) (a : EReal) : invOf (F := Ideal) K a = pow2 (-exponent (Ideal.ofBits .f32 K) a) := by
  refine guarded_eq K a _ (fun e => -e) rfl fun m hm hs => ?_
  rw [hs, (climb_at m hm).2.2, count_eq m hm]
  congr 1; omega
end Cert.Scale
end
-- ==== Proof.Spec.lean ====
module
public import proofs.«01_k».proof.Proof.LadderValue
public import Idealize.ShloMosaic.Lib.Pipeline.ValueKit
@[expose] public section

/-! What the layer computes, as formulas over the extended reals: the scale of a history, the codes of an
array, the three products, and the history with one more maximum.  Both programs are read as these. -/

namespace Cert.Spec
open Idealize.ShloMosaic Cert.Scale

/-- An array of 16 maxima. -/
abbrev Hist : Type := (⟨1, ![16]⟩ : Shape).Idx → EReal

/-- A matrix of `a` rows and `b` columns. -/
abbrev Mat (a b : ℕ) : Type := (⟨2, ![a, b]⟩ : Shape).Idx → EReal

/-- One over the largest code of four exponent bits, as written in both programs. -/
noncomputable def perMax4 : EReal := Ideal.ofBits .f32 0x3B124925#32
/-- One over the largest code of five exponent bits, as written in both programs. -/
noncomputable def perMax5 : EReal := Ideal.ofBits .f32 0x37924925#32
/-- The largest code of four exponent bits. -/
noncomputable def hi4 : EReal := Ideal.ofBits .f32 0x43E00000#32
/-- The smallest code of four exponent bits. -/
noncomputable def lo4 : EReal := Ideal.ofBits .f32 0xC3E00000#32
/-- The largest code of five exponent bits. -/
noncomputable def hi5 : EReal := Ideal.ofBits .f32 0x47600000#32
/-- The smallest code of five exponent bits. -/
noncomputable def lo5 : EReal := Ideal.ofBits .f32 0xC7600000#32

/-- The largest entry of a history. -/
noncomputable def hmax (h : Hist) : EReal := Finset.univ.fold max ⊥ fun k : Fin 16 => h (ix1 k)

/-- The scale read off a history: the power of two under its largest entry times `K`. -/
noncomputable def scale (K : EReal) (h : Hist) : EReal := pow2 (exponent K (hmax h))

/-- The inverse of the scale. -/
noncomputable def inv (K : EReal) (h : Hist) : EReal := pow2 (-exponent K (hmax h))

/-- The codes of an array: every entry times the inverse scale, clipped. -/
noncomputable def codes (lo hi s : EReal) {a b : ℕ} (v : Mat a b) : Mat a b := fun i => min hi (max lo (v i * s))

/-- Rows by columns, times a scale. -/
noncomputable def prodRC {a b c : ℕ} (s : EReal) (x : Mat a b) (w : Mat b c) : Mat a c :=
  fun i => (∑ k : Fin b, x (ix2 (i 0) k) * w (ix2 k (i 1))) * s

/-- Rows by rows, times a scale. -/
noncomputable def prodRR {a b c : ℕ} (s : EReal) (x : Mat a b) (w : Mat c b) : Mat a c :=
  fun i => (∑ k : Fin b, x (ix2 (i 0) k) * w (ix2 (i 1) k)) * s

/-- Columns by columns, times a scale. -/
noncomputable def prodCC {a b c : ℕ} (s : EReal) (x : Mat b a) (w : Mat b c) : Mat a c :=
  fun i => (∑ k : Fin b, x (ix2 k (i 0)) * w (ix2 k (i 1))) * s

/-- The largest magnitude of a matrix. -/
noncomputable def amax {a b : ℕ} (v : Mat a b) : EReal :=
  Finset.univ.sup fun p : Fin a × Fin b => mag (v (ix2 p.1 p.2))

/-- A history moved down by one, with `v` at its end. -/
noncomputable def push (h : Hist) (v : EReal) : Hist :=
  fun i => if hi : (i 0).val + 1 < 16 then h (ix1 (⟨(i 0).val + 1, hi⟩ : Fin 16)) else v

/-- The matrix with its rows taken by eights. -/
def byEights {n b : ℕ} (v : Mat (n * 8) b) : (⟨3, ![n, 8, b]⟩ : Shape).Idx → EReal :=
  fun i => v (ix2 (⟨(i 0).val * 8 + (i 1).val, by have h0 : (i 0).val < n := (i 0).isLt; have h1 : (i 1).val < 8 := (i 1).isLt; omega⟩ : Fin (n * 8)) (i 2))

/-- What the layer is given: activations and gradients as matrices of 8192 rows, weights, and three histories. -/
structure Args where
  /-- the activations -/
  x : Mat 8192 2304
  /-- the weights -/
  w : Mat 2304 2560
  /-- the gradients of the output -/
  dy : Mat 8192 2560
  /-- the history of the activations -/
  hx : Hist
  /-- the history of the weights -/
  hw : Hist
  /-- the history of the gradients -/
  hdy : Hist

namespace Args
variable (A : Args)

/-- The scale of the activations. -/
noncomputable def xs : EReal := scale perMax4 A.hx
/-- The scale of the weights. -/
noncomputable def ws : EReal := scale perMax4 A.hw
/-- The scale of the gradients. -/
noncomputable def dys : EReal := scale perMax5 A.hdy
/-- The codes of the activations. -/
noncomputable def xq : Mat 8192 2304 := codes lo4 hi4 (inv perMax4 A.hx) A.x
/-- The codes of the weights. -/
noncomputable def wq : Mat 2304 2560 := codes lo4 hi4 (inv perMax4 A.hw) A.w
/-- The codes of the gradients. -/
noncomputable def dyq : Mat 8192 2560 := codes lo5 hi5 (inv perMax5 A.hdy) A.dy
/-- The layer's output. -/
noncomputable def y : Mat 8192 2560 := prodRC (A.xs * A.ws) A.xq A.wq
/-- The gradients of the activations. -/
noncomputable def dx : Mat 8192 2304 := prodRR (A.dys * A.ws) A.dyq A.wq
/-- The gradients of the weights. -/
noncomputable def dw : Mat 2304 2560 := prodCC (A.xs * A.dys) A.xq A.dyq
/-- The next history of the activations. -/
noncomputable def hx' : Hist := push A.hx (amax A.x)
/-- The next history of the weights. -/
noncomputable def hw' : Hist := push A.hw (amax A.w)
/-- The next history of the gradients. -/
noncomputable def hdy' : Hist := push A.hdy (amax A.dy)

end Args

/-- A magnitude is not negative. -/
theorem mag_nonneg (x : EReal) : 0 ≤ mag x := by
  rcases le_total 0 x with h | h
  · exact le_max_of_le_left h
  · exact le_max_of_le_right (by simpa using EReal.neg_le_neg_iff.mpr h)

/-- A number over which exactly the bounds of all magnitudes lie is their largest. -/
theorem eq_amax {a b : ℕ} (v : Mat a b) (m : EReal)
    (h : ∀ y, m ≤ y ↔ ∀ (i : Fin a) (j : Fin b), mag (v (ix2 i j)) ≤ y) : m = amax v := by
  refine le_antisymm ((h _).mpr fun i j => ?_) (Finset.sup_le fun p _ => (h m).mp le_rfl p.1 p.2)
  exact Finset.le_sup (f := fun p : Fin a × Fin b => mag (v (ix2 p.1 p.2))) (Finset.mem_univ (i, j))

end Cert.Spec
-- ==== Proof.KernelHistory.lean ====
module
public import proofs.«01_k».proof.Proof.Spec
@[expose] public section

/-! The kernels' histories, scales and running maxima at extended reals. -/

namespace Cert.KernelIdeal
open Idealize.ShloMosaic Cert.Scale Cert.Spec

/-- A cell of a history is its entry. -/
theorem cell_eq (k : Fin 16) : cell k = (ix1 k : S16.Idx) := by
  funext a
  have ha : a = (0 : Fin 1) := Subsingleton.elim (α := Fin 1) a 0
  subst ha; rfl

/-- The maximum taken cell by cell is the largest entry. -/
theorem histMax_eq (h : Vec Ideal S16 .f32) : histMax h = hmax h := by
  show histMax h = Finset.univ.sup fun k : Fin 16 => h (ix1 k : S16.Idx)
  have hk : ∀ k : Fin 16, h (ix1 k : S16.Idx) ≤ Finset.univ.sup fun k : Fin 16 => h (ix1 k : S16.Idx) :=
    fun k => Finset.le_sup (f := fun k : Fin 16 => h (ix1 k : S16.Idx)) (Finset.mem_univ k)
  have hm : ∀ a b y : EReal, Scalar.maximumf (F := Ideal) (φ := .f32) a b ≤ y ↔ a ≤ y ∧ b ≤ y := fun a b y => max_le_iff
  have hi : ∀ y, histMax h ≤ y ↔ ∀ k : Fin 16, h (cell k) ≤ y := by
    intro y
    unfold histMax
    simp only [hm]
    constructor
    · intro H k
      fin_cases k
      all_goals tauto
    · intro H
      simp only [H, and_self]
  refine le_antisymm ((hi _).mpr fun k => ?_) (Finset.sup_le fun k _ => ?_)
  · rw [cell_eq]; exact hk k
  · rw [← cell_eq]; exact (hi _).mp le_rfl k

/-- The history the kernels write is the old one moved down by one. -/
theorem pushHist_eq (h : Vec Ideal S16 .f32) (v : EReal) : pushHist (F := Ideal) h v = push h v := by
  funext i
  unfold pushHist push
  split_ifs
  · rw [cell_eq]
  · rfl

end Cert.KernelIdeal

namespace Cert.Spec
open Idealize.ShloMosaic Cert.Scale

/-- A maximum kept eight rows at a time, `T` blocks of `Q` times eight rows, from zero: over all rows it is the
largest magnitude. -/
theorem amax_of_blocks {R C : ℕ} (T Q : ℕ) (hR : R = T * (Q * 8)) (hT : 0 < T) (hQ : 0 < Q) (hC : 0 < C) (v : Mat R C) (acc : ℕ → Mat 8 C) (m : EReal)
    (h0 : ∀ r l, acc 0 (ix2 r l) = 0)
    (hs : ∀ t (ht : t < T) (r : Fin 8) (l : Fin C) y, acc (t + 1) (ix2 r l) ≤ y ↔ acc t (ix2 r l) ≤ y ∧
      ∀ (q : Fin Q) (i : Fin R), i.val = t * (Q * 8) + (q.val * 8 + r.val) → mag (v (ix2 i l)) ≤ y)
    (hm : ∀ y, m ≤ y ↔ ∀ (r : Fin 8) (l : Fin C), acc T (ix2 r l) ≤ y) : m = amax v := by
  have ha : ∀ n, n ≤ T → ∀ (r : Fin 8) (l : Fin C) y, acc n (ix2 r l) ≤ y ↔ 0 ≤ y ∧
      ∀ t < n, ∀ (q : Fin Q) (i : Fin R), i.val = t * (Q * 8) + (q.val * 8 + r.val) → mag (v (ix2 i l)) ≤ y := by
    intro n
    induction n with
    | zero => intro _ r l y; rw [h0]; simp
    | succ n ih =>
      intro hn r l y
      rw [hs n hn, ih (by omega)]
      constructor
      · rintro ⟨⟨h, h1⟩, h2⟩
        refine ⟨h, fun t ht q i hi => ?_⟩
        rcases Nat.lt_succ_iff_lt_or_eq.mp ht with h3 | rfl
        · exact h1 t h3 q i hi
        · exact h2 q i hi
      · rintro ⟨h, h1⟩
        exact ⟨⟨h, fun t ht => h1 t (by omega)⟩, h1 n (by omega)⟩
  refine eq_amax v m fun y => ?_
  rw [hm]
  constructor
  · intro h i l
    have hi : i.val / (Q * 8) < T := by
      have := i.isLt
      rw [Nat.div_lt_iff_lt_mul (by omega)]; omega
    have hq : i.val % (Q * 8) / 8 < Q := by
      rw [Nat.div_lt_iff_lt_mul (by omega)]; exact Nat.mod_lt _ (by omega)
    refine ((ha T le_rfl ⟨i.val % (Q * 8) % 8, Nat.mod_lt _ (by omega)⟩ l y).mp (h _ _)).2 _ hi ⟨_, hq⟩ i ?_
    show i.val = i.val / (Q * 8) * (Q * 8) + (i.val % (Q * 8) / 8 * 8 + i.val % (Q * 8) % 8)
    rw [Nat.div_add_mod', Nat.div_add_mod']
  · intro h r l
    have hRp : 0 < R := hR ▸ Nat.mul_pos hT (by omega)
    exact (ha T le_rfl r l y).mpr ⟨(mag_nonneg _).trans (h ⟨0, hRp⟩ ⟨0, hC⟩), fun _ _ _ i _ => h i l⟩

end Cert.Spec
-- ==== Proof.QuantValue.lean ====
module
public import proofs.«01_k».proof.Proof.QuantRegion
public import proofs.«01_k».proof.Proof.KernelHistory
@[expose] public section

/-! What the weights' quantiser leaves in its three results, as the formulas of `Cert.Spec`. -/

namespace Cert.KernelIdeal.Quant
open Idealize.ShloMosaic Cert.Scale
set_option maxRecDepth 16384

variable (V : (c : Dev nD) → (b : Ref sig .tc) → Buf (Elt Ideal) ((c.tc : Thread nD τ).loc b)) (c : Dev nD)

/-- The word a maximum starts from is the least number. -/
theorem bits_bot : Ideal.ofBits .f32 0xFF800000#32 = ⊥ := by simp [Ideal.ofBits, Ideal.ieee]

/-- One code. -/
theorem codes_at (h : Vec Ideal S16 .f32) (w : Vec Ideal S288x2560 .f32) (y : S288x2560.Idx) :
    codes h w y = min Spec.hi4 (max Spec.lo4 (w y * Spec.inv Spec.perMax4 h)) := by
  rw [eq_ix2 y]
  unfold codes
  rw [invOf_eq, histMax_eq]
  pointwise [Gen.k0_pay1]
  rfl

/-- The scale. -/
theorem scale_at (h : Vec Ideal S16 .f32) (y : S1.Idx) : scale h y = Spec.scale Spec.perMax4 h := by
  unfold scale
  rw [scaleOf_eq, histMax_eq]
  rfl

/-- The running maximum starts at zero. -/
theorem acc0_at (r : Fin 8) (l : Fin 2560) : (acc0 (F := Ideal)) (ix2 r l : S8x2560.Idx) = 0 := by
  unfold acc0
  pointwise [Gen.k0_pay2]

/-- The running maximum is bounded after one block more when it was before and the block is. -/
theorem accStep_le (w : Vec Ideal S288x2560 .f32) (s : Vec Ideal S8x2560 .f32) (r : Fin 8) (l : Fin 2560) (y : EReal) :
    accStep w s (ix2 r l : S8x2560.Idx) ≤ y ↔ s (ix2 r l : S8x2560.Idx) ≤ y
      ∧ ∀ q : Fin 36, mag (w (ix2 (⟨q.val * 8 + r.val, by omega⟩ : Fin 288) l : S288x2560.Idx)) ≤ y := by
  unfold accStep
  pointwise [Gen.k0_pay3]
  rw [max_le_iff, bits_bot, Finset.fold_max_le]
  simp
  exact fun _ => Iff.rfl

/-- The final maximum is bounded when every running maximum is. -/
theorem pay4_le (s : Vec Ideal S8x2560 .f32) (y : EReal) :
    Gen.k0_pay4 s ≤ y ↔ ∀ (r : Fin 8) (l : Fin 2560), s (ix2 r l : S8x2560.Idx) ≤ y := by
  pointwise [Gen.k0_pay4]
  rw [bits_bot, Finset.fold_max_le]
  simp

/-! ## The blocks -/

/-- Every point's block of the history is the history. -/
theorem blk_hist (t : Fin cfg0.N) : (iblk V c 0 t : Vec Ideal S16 .f32) = V c main_arg4 := by
  have e : ∀ t a, (cfg0.win 0).index t a = 0 := by decide +kernel
  exact funext fun y => congrArg (V c main_arg4) (funext fun a => Fin.ext ((cfg0.win 0).rect_emb_val_of_index_zero t a (e t a) y))

/-- Row `r` of block `t` of the weights is row `288 t + r`. -/
theorem blk_w (t : Fin cfg0.N) (r : Fin 288) (l : Fin 2560) (i : Fin 2304) (hi : i.val = t.val * 288 + r.val) :
    (iblk V c 1 t : Vec Ideal S288x2560 .f32) (ix2 r l) = V c main_arg1 (ix2 i l : S2304x2560.Idx) := by
  have e : ∀ t, (cfg0.win 1).index t = ![t.val, 0] := by decide +kernel
  refine congrArg (V c main_arg1) (funext fun a => Fin.ext ?_)
  refine ((cfg0.win 1).rect_emb_val t _ a).trans ?_
  rw [e t]
  fin_cases a
  · exact hi.symm
  · exact (Nat.zero_mul _).symm ▸ Nat.zero_add _

/-- The weights' codes at the end. -/
theorem codes_arr : (dats V c).arrAt 2 cfg0.N = Spec.codes Spec.lo4 Spec.hi4 (Spec.inv Spec.perMax4 (V c main_arg4)) (a := 2304) (b := 2560) (V c main_arg1) := by
  refine (dats V c).arrAt_eq_of_covers 2 _ (by decide +kernel) fun t hf y => ?_
  blk_simp
  rw [after_2, blk_hist]
  rw [codes_at]
  have e : ∀ t, (cfg0.win 1).index t = (cfg0.win 2).index t := by decide +kernel
  refine congrArg (fun v => min Spec.hi4 (max Spec.lo4 (v * Spec.inv Spec.perMax4 (V c main_arg4)))) ?_
  refine congrArg (V c main_arg1) (funext fun a => Fin.ext ?_)
  exact ((cfg0.win 1).rect_emb_val t _ a).trans ((congrArg (fun z => z a * _ + _) (e t)).trans ((cfg0.win 2).rect_emb_val t _ a).symm)

/-- The weights' scale at the end. -/
theorem scale_arr : (dats V c).arrAt 3 cfg0.N = fun _ => Spec.scale Spec.perMax4 (V c main_arg4) := by
  refine (dats V c).arrAt_eq_of_after_last 3 Gen.t0_7 (by decide +kernel) _ fun j => ?_
  blk_simp
  rw [after_3, blk_hist]
  exact scale_at _ _

/-- The weights' history at the end. -/
theorem hist_arr : (dats V c).arrAt 4 cfg0.N = Spec.push (V c main_arg4) (Spec.amax (a := 2304) (b := 2560) (V c main_arg1)) := by
  refine (dats V c).arrAt_eq_of_after_last 4 Gen.t0_7 (by decide +kernel) _ fun j => ?_
  blk_simp
  rw [after_4, blk_hist]
  unfold newHist
  rw [pushHist_eq]
  refine congrArg (fun v => Spec.push (V c main_arg4) v j) (Spec.amax_of_blocks 8 36 rfl (by decide) (by decide) (by decide) _ (accAt V c) _ (acc0_at) ?_ (pay4_le _))
  intro t ht r l y
  have hN : t < cfg0.N := lt_of_lt_of_eq ht Gen.N_0.symm
  rw [accAt_succ V c ⟨t, hN⟩, accStep_le]
  refine and_congr Iff.rfl ⟨fun H q i hi => ?_, fun H q => ?_⟩
  · rw [← blk_w V c ⟨t, hN⟩ ⟨q.val * 8 + r.val, by omega⟩ l i (by simp only [Fin.val_mk]; omega)]
    exact H q
  · rw [blk_w V c ⟨t, hN⟩ ⟨q.val * 8 + r.val, by omega⟩ l ⟨t * 288 + (q.val * 8 + r.val), by omega⟩ rfl]
    exact H q _ rfl

end Cert.KernelIdeal.Quant
-- ==== Proof.LinearValue.lean ====
module
public import proofs.«01_k».proof.Proof.LinearRegion
public import proofs.«01_k».proof.Proof.KernelHistory
@[expose] public section

/-! What one block of tokens gives, as the formulas of `Cert.Spec`, at any arrays. -/

namespace Cert.KernelIdeal.Linear
open Idealize.ShloMosaic Cert.Scale
set_option maxRecDepth 16384

/-- The word a maximum starts from is the least number. -/
theorem bits_bot : Ideal.ofBits .f32 0xFF800000#32 = ⊥ := by simp [Ideal.ofBits, Ideal.ieee]

/-- The activations' scale. -/
theorem xScale_eq (h : Vec Ideal S16 .f32) : xScale h = Spec.scale Spec.perMax4 h := by
  unfold xScale
  rw [scaleOf_eq, histMax_eq]
  rfl

/-- The gradients' scale. -/
theorem dyScale_eq (h : Vec Ideal S16 .f32) : dyScale h = Spec.scale Spec.perMax5 h := by
  unfold dyScale
  rw [scaleOf_eq, histMax_eq]
  rfl

/-- The codes of a block of activations. -/
theorem xCodes_eq (h : Vec Ideal S16 .f32) (x : Vec Ideal S512x2304 .bf16) :
    xCodes h x = Spec.codes Spec.lo4 Spec.hi4 (Spec.inv Spec.perMax4 h) (a := 512) (b := 2304) x := by
  funext y
  rw [eq_ix2 y]
  unfold xCodes
  rw [invOf_eq, histMax_eq]
  pointwise [Gen.k1_pay55, Gen.k1_pay53]
  rfl

/-- The codes of a block of gradients. -/
theorem dyCodes_eq (h : Vec Ideal S16 .f32) (dy : Vec Ideal S512x2560 .bf16) :
    dyCodes h dy = Spec.codes Spec.lo5 Spec.hi5 (Spec.inv Spec.perMax5 h) (a := 512) (b := 2560) dy := by
  funext y
  rw [eq_ix2 y]
  unfold dyCodes
  rw [invOf_eq, histMax_eq]
  pointwise [Gen.k1_pay56, Gen.k1_pay54]
  rfl

/-- One entry of a block of outputs. -/
theorem pay3_at (s ws : EReal) (xq : Vec Ideal S512x2304 .fp8e4m3) (wq : Vec Ideal S2304x2560 .fp8e4m3) (q : Fin 64) (r : Fin 8) (l : Fin 2560) :
    Gen.k1_pay3 (F := Ideal) s ws xq wq (ix3 q r l : S64x8x2560.Idx)
      = (∑ k : Fin 2304, xq (ix2 (⟨q.val * 8 + r.val, by omega⟩ : Fin 512) k : S512x2304.Idx) * wq (ix2 k l : S2304x2560.Idx)) * (s * ws) := by
  pointwise [Gen.k1_pay3, Gen.k1_pay2]

/-- One entry of a block of input gradients. -/
theorem pay4_at (s ws : EReal) (dyq : Vec Ideal S512x2560 .fp8e5m2) (wq : Vec Ideal S2304x2560 .fp8e4m3) (q : Fin 64) (r : Fin 8) (l : Fin 2304) :
    Gen.k1_pay4 (F := Ideal) s ws dyq wq (ix3 q r l : S64x8x2304.Idx)
      = (∑ k : Fin 2560, dyq (ix2 (⟨q.val * 8 + r.val, by omega⟩ : Fin 512) k : S512x2560.Idx) * wq (ix2 l k : S2304x2560.Idx)) * (s * ws) := by
  pointwise [Gen.k1_pay4, Gen.k1_pay2]

/-- The weight gradient starts at zero. -/
theorem dw0_at (r : Fin 2304) (l : Fin 2560) : (dw0 (F := Ideal)) (ix2 r l : S2304x2560.Idx) = 0 := by
  unfold dw0
  pointwise [Gen.k1_pay50]

/-- One entry of the weight gradient after one block more. -/
theorem pay5_at (xq : Vec Ideal S512x2304 .fp8e4m3) (dyq : Vec Ideal S512x2560 .fp8e5m2) (d : Vec Ideal S2304x2560 .f32) (r : Fin 2304) (l : Fin 2560) :
    Gen.k1_pay5 (F := Ideal) xq dyq d (ix2 r l : S2304x2560.Idx)
      = d (ix2 r l : S2304x2560.Idx) + ∑ k : Fin 512, xq (ix2 k r : S512x2304.Idx) * dyq (ix2 k l : S512x2560.Idx) := by
  pointwise [Gen.k1_pay5]

/-- One entry of the weight gradient at the end. -/
theorem pay6_at (s t : EReal) (d : Vec Ideal S2304x2560 .f32) (r : Fin 2304) (l : Fin 2560) :
    Gen.k1_pay6 (F := Ideal) s t d (ix2 r l : S2304x2560.Idx) = d (ix2 r l : S2304x2560.Idx) * (s * t) := by
  pointwise [Gen.k1_pay6]

/-- The activations' running maximum starts at zero. -/
theorem accX0_at (r : Fin 8) (l : Fin 2304) : (accX0 (F := Ideal)) (ix2 r l : S8x2304.Idx) = 0 := by
  unfold accX0
  pointwise [Gen.k1_pay51]

/-- The gradients' running maximum starts at zero. -/
theorem accDy0_at (r : Fin 8) (l : Fin 2560) : (accDy0 (F := Ideal)) (ix2 r l : S8x2560.Idx) = 0 := by
  unfold accDy0
  pointwise [Gen.k1_pay52]

/-- The running maximum is bounded after one block more when it was before and the block is. -/
theorem accXStep_le (x : Vec Ideal S512x2304 .bf16) (s : Vec Ideal S8x2304 .f32) (r : Fin 8) (l : Fin 2304) (y : EReal) :
    accXStep x s (ix2 r l : S8x2304.Idx) ≤ y ↔ s (ix2 r l : S8x2304.Idx) ≤ y
      ∧ ∀ q : Fin 64, mag (x (ix2 (⟨q.val * 8 + r.val, by omega⟩ : Fin 512) l : S512x2304.Idx)) ≤ y := by
  unfold accXStep
  pointwise [Gen.k1_pay57, Gen.k1_pay53]
  rw [max_le_iff, bits_bot, Finset.fold_max_le]
  simp
  exact fun _ => Iff.rfl

/-- The running maximum is bounded after one block more when it was before and the block is. -/
theorem accDyStep_le (dy : Vec Ideal S512x2560 .bf16) (s : Vec Ideal S8x2560 .f32) (r : Fin 8) (l : Fin 2560) (y : EReal) :
    accDyStep dy s (ix2 r l : S8x2560.Idx) ≤ y ↔ s (ix2 r l : S8x2560.Idx) ≤ y
      ∧ ∀ q : Fin 64, mag (dy (ix2 (⟨q.val * 8 + r.val, by omega⟩ : Fin 512) l : S512x2560.Idx)) ≤ y := by
  unfold accDyStep
  pointwise [Gen.k1_pay1, Gen.k1_pay58, Gen.k1_pay54]
  rw [max_le_iff, bits_bot, Finset.fold_max_le]
  simp
  exact fun _ => Iff.rfl

/-- The final maximum is bounded when every running maximum is. -/
theorem pay7_le (s : Vec Ideal S8x2304 .f32) (y : EReal) :
    Gen.k1_pay7 s ≤ y ↔ ∀ (r : Fin 8) (l : Fin 2304), s (ix2 r l : S8x2304.Idx) ≤ y := by
  pointwise [Gen.k1_pay7]
  rw [bits_bot, Finset.fold_max_le]
  simp

/-- The final maximum is bounded when every running maximum is. -/
theorem pay8_le (s : Vec Ideal S8x2560 .f32) (y : EReal) :
    Gen.k1_pay8 s ≤ y ↔ ∀ (r : Fin 8) (l : Fin 2560), s (ix2 r l : S8x2560.Idx) ≤ y := by
  pointwise [Gen.k1_pay8]
  rw [bits_bot, Finset.fold_max_le]
  simp

end Cert.KernelIdeal.Linear
-- ==== Proof.LinearArrays.lean ====
module
public import proofs.«01_k».proof.Proof.LinearValue
@[expose] public section

/-! What the linear layer leaves in its nine results, as the formulas of `Cert.Spec`, at any arrays it is given. -/

namespace Cert.KernelIdeal.Linear
open Idealize.ShloMosaic Cert.Scale
set_option maxRecDepth 16384

variable (V : (c : Dev nD) → (b : Ref sig .tc) → Buf (Elt Ideal) ((c.tc : Thread nD τ).loc b)) (c : Dev nD)

/-! The blocks of the arrays that every point reads whole. -/

/-- Every point's block of the activations' history is the history. -/
theorem blk_hx (t : Fin cfg1.N) : (iblk V c 0 t : Vec Ideal S16 .f32) = V c main_arg3 := by
  have e : ∀ t a, (cfg1.win 0).index t a = 0 := by decide +kernel
  exact funext fun y => congrArg (V c main_arg3) (funext fun a => Fin.ext ((cfg1.win 0).rect_emb_val_of_index_zero t a (e t a) y))

/-- Every point's block of the gradients' history is the history. -/
theorem blk_hdy (t : Fin cfg1.N) : (iblk V c 1 t : Vec Ideal S16 .f32) = V c main_arg5 := by
  have e : ∀ t a, (cfg1.win 1).index t a = 0 := by decide +kernel
  exact funext fun y => congrArg (V c main_arg5) (funext fun a => Fin.ext ((cfg1.win 1).rect_emb_val_of_index_zero t a (e t a) y))

/-- Every point's block of the weights' scale is the scale. -/
theorem blk_ws (t : Fin cfg1.N) : (iblk V c 2 t : Vec Ideal S1 .f32) = V c main_v0_1 := by
  have e : ∀ t a, (cfg1.win 2).index t a = 0 := by decide +kernel
  exact funext fun y => congrArg (V c main_v0_1) (funext fun a => Fin.ext ((cfg1.win 2).rect_emb_val_of_index_zero t a (e t a) y))

/-- Every point's block of the weights' codes is all of them. -/
theorem blk_wq (t : Fin cfg1.N) : (iblk V c 5 t : Vec Ideal S2304x2560 .fp8e4m3) = V c main_v0_0 := by
  have e : ∀ t a, (cfg1.win 5).index t a = 0 := by decide +kernel
  exact funext fun y => congrArg (V c main_v0_0) (funext fun a => Fin.ext ((cfg1.win 5).rect_emb_val_of_index_zero t a (e t a) y))

/-! A block of tokens is 512 rows. -/

/-- Row `r` of block `t` of the activations is row `512 t + r`. -/
theorem blk_x (t : Fin cfg1.N) (r : Fin 512) (l : Fin 2304) (i : Fin 8192) (hi : i.val = t.val * 512 + r.val) :
    (iblk V c 3 t : Vec Ideal S512x2304 .bf16) (ix2 r l) = V c main_v1 (ix2 i l : S8192x2304.Idx) := by
  have e : ∀ t, (cfg1.win 3).index t = ![t.val, 0] := by decide +kernel
  refine congrArg (V c main_v1) (funext fun a => Fin.ext ?_)
  refine ((cfg1.win 3).rect_emb_val t _ a).trans ?_
  rw [e t]
  fin_cases a
  · exact hi.symm
  · exact (Nat.zero_mul _).symm ▸ Nat.zero_add _

/-- Row `r` of block `t` of the gradients is row `512 t + r`. -/
theorem blk_dy (t : Fin cfg1.N) (r : Fin 512) (l : Fin 2560) (i : Fin 8192) (hi : i.val = t.val * 512 + r.val) :
    (iblk V c 4 t : Vec Ideal S512x2560 .bf16) (ix2 r l) = V c main_v2 (ix2 i l : S8192x2560.Idx) := by
  have e : ∀ t, (cfg1.win 4).index t = ![t.val, 0] := by decide +kernel
  refine congrArg (V c main_v2) (funext fun a => Fin.ext ?_)
  refine ((cfg1.win 4).rect_emb_val t _ a).trans ?_
  rw [e t]
  fin_cases a
  · exact hi.symm
  · exact (Nat.zero_mul _).symm ▸ Nat.zero_add _

/-- The codes of the activations. -/
noncomputable def xq : Spec.Mat 8192 2304 := Spec.codes Spec.lo4 Spec.hi4 (Spec.inv Spec.perMax4 (V c main_arg3)) (V c main_v1)
/-- The codes of the gradients. -/
noncomputable def dyq : Spec.Mat 8192 2560 := Spec.codes Spec.lo5 Spec.hi5 (Spec.inv Spec.perMax5 (V c main_arg5)) (V c main_v2)
/-- The weights' codes, as they come. -/
noncomputable def wq : Spec.Mat 2304 2560 := V c main_v0_0
/-- The scale of the activations. -/
noncomputable def xs : EReal := Spec.scale Spec.perMax4 (V c main_arg3)
/-- The scale of the gradients. -/
noncomputable def dys : EReal := Spec.scale Spec.perMax5 (V c main_arg5)
/-- The weights' scale, as it comes. -/
noncomputable def ws : EReal := only (F := Ideal) (V c main_v0_1)

/-- The codes of a block of activations are the activations' codes at its rows. -/
theorem blk_xq (t : Fin cfg1.N) (r : Fin 512) (l : Fin 2304) (i : Fin 8192) (hi : i.val = t.val * 512 + r.val) :
    xCodes (iblk V c 0 t) (iblk V c 3 t) (ix2 r l : S512x2304.Idx) = xq V c (ix2 i l) := by
  rw [xCodes_eq, blk_hx]
  unfold xq Spec.codes
  rw [blk_x V c t r l i hi]

/-- The codes of a block of gradients are the gradients' codes at its rows. -/
theorem blk_dyq (t : Fin cfg1.N) (r : Fin 512) (l : Fin 2560) (i : Fin 8192) (hi : i.val = t.val * 512 + r.val) :
    dyCodes (iblk V c 1 t) (iblk V c 4 t) (ix2 r l : S512x2560.Idx) = dyq V c (ix2 i l) := by
  rw [dyCodes_eq, blk_hdy]
  unfold dyq Spec.codes
  rw [blk_dy V c t r l i hi]

/-! The results written block by block. -/

/-- The activations' codes at the end. -/
theorem xq_arr : (dats V c).arrAt 9 cfg1.N = xq V c := by
  refine (dats V c).arrAt_eq_of_covers 9 _ (by decide +kernel) fun t hf y => ?_
  blk_simp
  rw [after_9]
  have e : ∀ t, (cfg1.win 9).index t = ![t.val, 0] := by decide +kernel
  obtain ⟨r, l, rfl⟩ : ∃ (r : Fin 512) (l : Fin 2304), y = (ix2 r l : S512x2304.Idx) := ⟨y 0, y 1, eq_ix2 y⟩
  have ht : t.val < 16 := lt_of_lt_of_eq t.isLt Gen.N_1
  refine (blk_xq V c t r l (⟨t.val * 512 + r.val, by omega⟩ : Fin 8192) rfl).trans (congrArg (xq V c) (funext fun a => Fin.ext ?_))
  refine Eq.trans ?_ ((cfg1.win 9).rect_emb_val t _ a).symm
  rw [e t]
  fin_cases a
  · rfl
  · exact ((Nat.zero_mul _).symm ▸ Nat.zero_add _).symm

/-- The gradients' codes at the end. -/
theorem dyq_arr : (dats V c).arrAt 10 cfg1.N = dyq V c := by
  refine (dats V c).arrAt_eq_of_covers 10 _ (by decide +kernel) fun t hf y => ?_
  blk_simp
  rw [after_10]
  have e : ∀ t, (cfg1.win 10).index t = ![t.val, 0] := by decide +kernel
  obtain ⟨r, l, rfl⟩ : ∃ (r : Fin 512) (l : Fin 2560), y = (ix2 r l : S512x2560.Idx) := ⟨y 0, y 1, eq_ix2 y⟩
  have ht : t.val < 16 := lt_of_lt_of_eq t.isLt Gen.N_1
  refine (blk_dyq V c t r l (⟨t.val * 512 + r.val, by omega⟩ : Fin 8192) rfl).trans (congrArg (dyq V c) (funext fun a => Fin.ext ?_))
  refine Eq.trans ?_ ((cfg1.win 10).rect_emb_val t _ a).symm
  rw [e t]
  fin_cases a
  · rfl
  · exact ((Nat.zero_mul _).symm ▸ Nat.zero_add _).symm

/-- One entry of the outputs of a block of tokens. -/
theorem y_block (t : Fin cfg1.N) (q : Fin 64) (r : Fin 8) (l : Fin 2560) (i : Fin 8192) (hi : i.val = t.val * 512 + (q.val * 8 + r.val)) :
    yOut (iblk V c 0 t) (iblk V c 2 t) (iblk V c 3 t) (iblk V c 5 t) (ix3 q r l : S64x8x2560.Idx)
      = (Spec.prodRC (xs V c * ws V c) (xq V c) (wq V c)) (ix2 i l) := by
  have hk (k) := blk_xq V c t (⟨q.val * 8 + r.val, by omega⟩ : Fin 512) k i hi
  unfold yOut
  rw [pay3_at, xScale_eq]
  simp only [hk]
  rw [blk_hx, blk_ws, blk_wq]
  rfl

/-- The outputs of a block of tokens, at their places in the whole array. -/
theorem y_of_block (t : Fin cfg1.N) (y : S64x8x2560.Idx) (j : S1024x8x2560.Idx) (h0 : (j 0).val = t.val * 64 + (y 0).val)
    (h1 : (j 1).val = (y 1).val) (h2 : (j 2).val = (y 2).val) :
    yOut (iblk V c 0 t) (iblk V c 2 t) (iblk V c 3 t) (iblk V c 5 t) y = Spec.byEights (n := 1024) (Spec.prodRC (xs V c * ws V c) (xq V c) (wq V c)) j := by
  obtain ⟨q, r, l, rfl⟩ : ∃ (q : Fin 64) (r : Fin 8) (l : Fin 2560), y = (ix3 q r l : S64x8x2560.Idx) := ⟨y 0, y 1, y 2, eq_ix3 y⟩
  obtain ⟨q', r', l', rfl⟩ : ∃ (q' : Fin 1024) (r' : Fin 8) (l' : Fin 2560), j = (ix3 q' r' l' : S1024x8x2560.Idx) := ⟨j 0, j 1, j 2, eq_ix3 j⟩
  have h0 : q'.val = t.val * 64 + q.val := h0
  obtain rfl : r' = r := Fin.ext h1
  obtain rfl : l' = l := Fin.ext h2
  exact y_block V c t q r' l' _ (by show q'.val * 8 + r'.val = _; omega)

/-- The outputs at the end. -/
theorem y_arr : (dats V c).arrAt 6 cfg1.N = Spec.byEights (n := 1024) (Spec.prodRC (xs V c * ws V c) (xq V c) (wq V c)) := by
  refine (dats V c).arrAt_eq_of_covers 6 _ (by decide +kernel) fun t hf y => ?_
  blk_simp
  rw [after_6]
  have e : ∀ t, (cfg1.win 6).index t = ![t.val, 0, 0] := by decide +kernel
  have ht : t.val < 16 := lt_of_lt_of_eq t.isLt Gen.N_1
  have h0 : (((cfg1.win 6).blk t).view.emb y (0 : Fin 3)).val = t.val * 64 + (y (0 : Fin 3)).val :=
    ((cfg1.win 6).rect_emb_val t y (0 : Fin 3)).trans (by rw [e t]; rfl)
  have h1 : (((cfg1.win 6).blk t).view.emb y (1 : Fin 3)).val = (y (1 : Fin 3)).val :=
    ((cfg1.win 6).rect_emb_val t y (1 : Fin 3)).trans (by rw [e t]; exact (Nat.zero_mul _).symm ▸ Nat.zero_add _)
  have h2 : (((cfg1.win 6).blk t).view.emb y (2 : Fin 3)).val = (y (2 : Fin 3)).val :=
    ((cfg1.win 6).rect_emb_val t y (2 : Fin 3)).trans (by rw [e t]; exact (Nat.zero_mul _).symm ▸ Nat.zero_add _)
  exact (y_of_block V c t y _ h0 h1 h2)

/-- One entry of the input gradients of a block of tokens. -/
theorem dx_block (t : Fin cfg1.N) (q : Fin 64) (r : Fin 8) (l : Fin 2304) (i : Fin 8192) (hi : i.val = t.val * 512 + (q.val * 8 + r.val)) :
    dxOut (iblk V c 1 t) (iblk V c 2 t) (iblk V c 4 t) (iblk V c 5 t) (ix3 q r l : S64x8x2304.Idx)
      = (Spec.prodRR (dys V c * ws V c) (dyq V c) (wq V c)) (ix2 i l) := by
  have hk (k) := blk_dyq V c t (⟨q.val * 8 + r.val, by omega⟩ : Fin 512) k i hi
  unfold dxOut
  rw [pay4_at, dyScale_eq]
  simp only [hk]
  rw [blk_hdy, blk_ws, blk_wq]
  rfl

/-- The input gradients of a block of tokens, at their places in the whole array. -/
theorem dx_of_block (t : Fin cfg1.N) (y : S64x8x2304.Idx) (j : S1024x8x2304.Idx) (h0 : (j 0).val = t.val * 64 + (y 0).val)
    (h1 : (j 1).val = (y 1).val) (h2 : (j 2).val = (y 2).val) :
    dxOut (iblk V c 1 t) (iblk V c 2 t) (iblk V c 4 t) (iblk V c 5 t) y = Spec.byEights (n := 1024) (Spec.prodRR (dys V c * ws V c) (dyq V c) (wq V c)) j := by
  obtain ⟨q, r, l, rfl⟩ : ∃ (q : Fin 64) (r : Fin 8) (l : Fin 2304), y = (ix3 q r l : S64x8x2304.Idx) := ⟨y 0, y 1, y 2, eq_ix3 y⟩
  obtain ⟨q', r', l', rfl⟩ : ∃ (q' : Fin 1024) (r' : Fin 8) (l' : Fin 2304), j = (ix3 q' r' l' : S1024x8x2304.Idx) := ⟨j 0, j 1, j 2, eq_ix3 j⟩
  have h0 : q'.val = t.val * 64 + q.val := h0
  obtain rfl : r' = r := Fin.ext h1
  obtain rfl : l' = l := Fin.ext h2
  exact dx_block V c t q r' l' _ (by show q'.val * 8 + r'.val = _; omega)

/-- The input gradients at the end. -/
theorem dx_arr : (dats V c).arrAt 7 cfg1.N = Spec.byEights (n := 1024) (Spec.prodRR (dys V c * ws V c) (dyq V c) (wq V c)) := by
  refine (dats V c).arrAt_eq_of_covers 7 _ (by decide +kernel) fun t hf y => ?_
  blk_simp
  rw [after_7]
  have e : ∀ t, (cfg1.win 7).index t = ![t.val, 0, 0] := by decide +kernel
  have ht : t.val < 16 := lt_of_lt_of_eq t.isLt Gen.N_1
  have h0 : (((cfg1.win 7).blk t).view.emb y (0 : Fin 3)).val = t.val * 64 + (y (0 : Fin 3)).val :=
    ((cfg1.win 7).rect_emb_val t y (0 : Fin 3)).trans (by rw [e t]; rfl)
  have h1 : (((cfg1.win 7).blk t).view.emb y (1 : Fin 3)).val = (y (1 : Fin 3)).val :=
    ((cfg1.win 7).rect_emb_val t y (1 : Fin 3)).trans (by rw [e t]; exact (Nat.zero_mul _).symm ▸ Nat.zero_add _)
  have h2 : (((cfg1.win 7).blk t).view.emb y (2 : Fin 3)).val = (y (2 : Fin 3)).val :=
    ((cfg1.win 7).rect_emb_val t y (2 : Fin 3)).trans (by rw [e t]; exact (Nat.zero_mul _).symm ▸ Nat.zero_add _)
  exact (dx_of_block V c t y _ h0 h1 h2)

/-! The results written at the last point. -/

/-- The activations' scale at the end. -/
theorem xs_arr : (dats V c).arrAt 11 cfg1.N = fun _ => xs V c := by
  refine (dats V c).arrAt_eq_of_after_last 11 Gen.t1_15 (by decide +kernel) _ fun j => ?_
  blk_simp
  rw [after_11, blk_hx]
  exact xScale_eq _

/-- The gradients' scale at the end. -/
theorem dys_arr : (dats V c).arrAt 12 cfg1.N = fun _ => dys V c := by
  refine (dats V c).arrAt_eq_of_after_last 12 Gen.t1_15 (by decide +kernel) _ fun j => ?_
  blk_simp
  rw [after_12, blk_hdy]
  exact dyScale_eq _

/-- The product of the codes of token `k` for the weight in row `r` and column `l`. -/
noncomputable def term (r : Fin 2304) (l : Fin 2560) (k : ℕ) : EReal :=
  if h : k < 8192 then xq V c (ix2 (⟨k, h⟩ : Fin 8192) r) * dyq V c (ix2 (⟨k, h⟩ : Fin 8192) l) else 0

/-- After `n` blocks the weight gradient holds the sum over the first `512 n` tokens. -/
theorem dwAt_at (r : Fin 2304) (l : Fin 2560) (n : ℕ) (hn : n ≤ 16) :
    dwAt V c n (ix2 r l : S2304x2560.Idx) = ∑ k ∈ Finset.range (n * 512), term V c r l k := by
  induction n with
  | zero => exact (dw0_at r l).trans (by simp)
  | succ n ih =>
    have hN : n < cfg1.N := lt_of_lt_of_eq (by omega) Gen.N_1.symm
    rw [dwAt_succ V c ⟨n, hN⟩]
    unfold dwStep
    rw [pay5_at, ih (by omega), Nat.succ_mul, Finset.sum_range_add, Finset.sum_range (n := 512)]
    refine congrArg _ (Finset.sum_congr rfl fun k _ => ?_)
    have hk : n * 512 + k.val < 8192 := by omega
    rw [blk_xq V c ⟨n, hN⟩ k r ⟨_, hk⟩ rfl, blk_dyq V c ⟨n, hN⟩ k l ⟨_, hk⟩ rfl]
    unfold term
    rw [dif_pos hk]

/-- The weight gradients at the end. -/
theorem dw_arr : (dats V c).arrAt 8 cfg1.N = Spec.prodCC (xs V c * dys V c) (xq V c) (dyq V c) := by
  refine (dats V c).arrAt_eq_of_after_last 8 Gen.t1_15 (by decide +kernel) _ fun j => ?_
  blk_simp
  rw [after_8, if_pos (by decide), blk_hx, blk_hdy]
  obtain ⟨r, l, rfl⟩ : ∃ (r : Fin 2304) (l : Fin 2560), j = (ix2 r l : S2304x2560.Idx) := ⟨j 0, j 1, eq_ix2 j⟩
  unfold dwEnd
  rw [pay6_at, xScale_eq, dyScale_eq]
  refine congrArg (fun z => z * (xs V c * dys V c)) ((dwAt_at V c r l 16 le_rfl).trans ?_)
  rw [Finset.sum_range (n := 16 * 512)]
  refine Finset.sum_congr rfl fun k _ => ?_
  unfold term
  rw [dif_pos (show k.val < 8192 from k.isLt)]
  rfl

/-- The activations' history at the end. -/
theorem hx_arr : (dats V c).arrAt 13 cfg1.N = Spec.push (V c main_arg3) (Spec.amax (a := 8192) (b := 2304) (V c main_v1)) := by
  refine (dats V c).arrAt_eq_of_after_last 13 Gen.t1_15 (by decide +kernel) _ fun j => ?_
  blk_simp
  rw [after_13, blk_hx]
  unfold newHistX
  rw [pushHist_eq]
  refine congrArg (fun v => Spec.push _ v j) (Spec.amax_of_blocks 16 64 rfl (by decide) (by decide) (by decide) _ (accXAt V c) _ accX0_at ?_ (pay7_le _))
  intro t ht r l y
  have hN : t < cfg1.N := lt_of_lt_of_eq ht Gen.N_1.symm
  rw [accXAt_succ V c ⟨t, hN⟩, accXStep_le]
  refine and_congr Iff.rfl ⟨fun H q i hi => ?_, fun H q => ?_⟩
  · rw [← blk_x V c ⟨t, hN⟩ (⟨q.val * 8 + r.val, by omega⟩ : Fin 512) l i hi]
    exact H q
  · rw [blk_x V c ⟨t, hN⟩ _ l (⟨t * 512 + (q.val * 8 + r.val), by omega⟩ : Fin 8192) rfl]
    exact H q _ rfl

/-- The gradients' history at the end. -/
theorem hdy_arr : (dats V c).arrAt 14 cfg1.N = Spec.push (V c main_arg5) (Spec.amax (a := 8192) (b := 2560) (V c main_v2)) := by
  refine (dats V c).arrAt_eq_of_after_last 14 Gen.t1_15 (by decide +kernel) _ fun j => ?_
  blk_simp
  rw [after_14, blk_hdy]
  unfold newHistDy
  rw [pushHist_eq]
  refine congrArg (fun v => Spec.push _ v j) (Spec.amax_of_blocks 16 64 rfl (by decide) (by decide) (by decide) _ (accDyAt V c) _ accDy0_at ?_ (pay8_le _))
  intro t ht r l y
  have hN : t < cfg1.N := lt_of_lt_of_eq ht Gen.N_1.symm
  rw [accDyAt_succ V c ⟨t, hN⟩, accDyStep_le]
  refine and_congr Iff.rfl ⟨fun H q i hi => ?_, fun H q => ?_⟩
  · rw [← blk_dy V c ⟨t, hN⟩ (⟨q.val * 8 + r.val, by omega⟩ : Fin 512) l i hi]
    exact H q
  · rw [blk_dy V c ⟨t, hN⟩ _ l (⟨t * 512 + (q.val * 8 + r.val), by omega⟩ : Fin 8192) rfl]
    exact H q _ rfl

end Cert.KernelIdeal.Linear
-- ==== Proof.KernelResult.lean ====
module
public import proofs.«01_k».proof.Proof.Run
public import proofs.«01_k».proof.Proof.QuantValue
public import proofs.«01_k».proof.Proof.LinearArrays
@[expose] public section

/-! The twelve results of the idealized kernel, as the formulas of `Cert.Spec` at its arguments. -/

namespace Cert.KernelIdeal.Value
open Idealize.ShloMosaic Idealize.ShloMosaic.TcCoe Idealize.SL.Sem Cert.Spec
open Cert.KernelIdeal.Run
set_option maxRecDepth 16384

variable (m : (ℓ : Loc nD τ sig) → Buf (Elt Ideal) ℓ) (c : Dev nD)

/-- What the layer is given: the arrays as the second kernel finds them. -/
noncomputable def args : Args :=
  ⟨V2 m c main_v1, V2 m c main_arg1, V2 m c main_v2, V2 m c main_arg3, V2 m c main_arg4, V2 m c main_arg5⟩

/-- The activations enter the second kernel with their first two axes merged. -/
theorem V2_main_v1 : (V2 m c main_v1 : Vec Ideal S8192x2304 .bf16)
    = shapeCast S8192x2304 (m ((c.tc : Thread nD τ).loc main_arg0) : Vec Ideal S8x1024x2304 .bf16) Gen.shapeCasts_S8x1024x2304_S8192x2304 := by
  rw [← W1_args m c main_arg0 (by decide)]
  show StableHlo.after Gen.hostOps1 _ _ = _
  unfold Gen.hostOps1
  after_results
  rfl

/-- The gradients enter the second kernel with their first two axes merged. -/
theorem V2_main_v2 : (V2 m c main_v2 : Vec Ideal S8192x2560 .bf16)
    = shapeCast S8192x2560 (m ((c.tc : Thread nD τ).loc main_arg2) : Vec Ideal S8x1024x2560 .bf16) Gen.shapeCasts_S8x1024x2560_S8192x2560 := by
  rw [← W1_args m c main_arg2 (by decide)]
  show StableHlo.after Gen.hostOps1 _ _ = _
  unfold Gen.hostOps1
  after_results
  rfl

/-- The first kernel finds the weights and their history as the second does. -/
theorem V0_eq (a : Ref sig .tc) (ha : a ∈ argRefs) : V0 m c a = V2 m c a := (W2_args m c a ha).symm

/-- The second kernel finds the weights' codes. -/
theorem V2_codes : V2 m c main_v0_0 = (args m c).wq := by
  refine (W2_of m c main_v0_0 (by decide)).trans ((W1_arr m c 2).trans ((Quant.codes_arr (V0 m) c).trans ?_))
  rw [V0_eq m c main_arg4 (by decide), V0_eq m c main_arg1 (by decide)]
  rfl

/-- The second kernel finds the weights' scale. -/
theorem V2_scale : V2 m c main_v0_1 = fun _ => (args m c).ws := by
  refine (W2_of m c main_v0_1 (by decide)).trans ((W1_arr m c 3).trans ((Quant.scale_arr (V0 m) c).trans ?_))
  rw [V0_eq m c main_arg4 (by decide)]
  rfl

/-- The weights' next history, as the second kernel finds it. -/
theorem V2_hist : V2 m c main_v0_2 = (args m c).hw' := by
  refine (W2_of m c main_v0_2 (by decide)).trans ((W1_arr m c 4).trans ((Quant.hist_arr (V0 m) c).trans ?_))
  rw [V0_eq m c main_arg4 (by decide), V0_eq m c main_arg1 (by decide)]
  rfl

/-- The codes the layer multiplies by are the weights' codes. -/
theorem wq_eq : Linear.wq (V2 m) c = (args m c).wq := V2_codes m c

/-- The scale the layer multiplies by is the weights' scale. -/
theorem ws_eq : Linear.ws (V2 m) c = (args m c).ws := by
  unfold Linear.ws
  rw [V2_scale]
  rfl

/-- The idealized kernel ends with its twelve results at the formulas, and its arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = (byEights (n := 1024) (args m c).y)
      ∧ r.2.mem ((c.tc : Thread nD τ).loc main_v3_1) = (byEights (n := 1024) (args m c).dx)
      ∧ r.2.mem ((c.tc : Thread nD τ).loc main_v3_2) = ((args m c).dw)
      ∧ r.2.mem ((c.tc : Thread nD τ).loc main_v3_7) = ((args m c).hx')
      ∧ r.2.mem ((c.tc : Thread nD τ).loc main_v0_2) = ((args m c).hw')
      ∧ r.2.mem ((c.tc : Thread nD τ).loc main_v3_8) = ((args m c).hdy')
      ∧ r.2.mem ((c.tc : Thread nD τ).loc main_v3_3) = ((args m c).xq)
      ∧ r.2.mem ((c.tc : Thread nD τ).loc main_v3_5) = (fun _ => (args m c).xs)
      ∧ r.2.mem ((c.tc : Thread nD τ).loc main_v0_0) = ((args m c).wq)
      ∧ r.2.mem ((c.tc : Thread nD τ).loc main_v0_1) = (fun _ => (args m c).ws)
      ∧ r.2.mem ((c.tc : Thread nD τ).loc main_v3_4) = ((args m c).dyq)
      ∧ r.2.mem ((c.tc : Thread nD τ).loc main_v3_6) = (fun _ => (args m c).dys)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (Run.run m ρ)
  have at_ (b : Ref sig .tc) (hb : ¬ (Proc.devRef .tc b : DevRef τ sig).isScoped) := mem_of_run m c (h.1 c) b hb
  have arg (a : Ref sig .tc) (ha : a ∈ argRefs) (hs : ¬ (Proc.devRef .tc a : DevRef τ sig).isScoped) :=
    (at_ a hs).trans (W3_args m c a ha)
  exact ⟨(at_ main_v3_0 (by decide)).trans ((W3_arr m c 6).trans ((Linear.y_arr (V2 m) c).trans (by rw [wq_eq, ws_eq]; rfl))),
    (at_ main_v3_1 (by decide)).trans ((W3_arr m c 7).trans ((Linear.dx_arr (V2 m) c).trans (by rw [wq_eq, ws_eq]; rfl))),
    (at_ main_v3_2 (by decide)).trans ((W3_arr m c 8).trans (Linear.dw_arr (V2 m) c)),
    (at_ main_v3_7 (by decide)).trans ((W3_arr m c 13).trans (Linear.hx_arr (V2 m) c)),
    (at_ main_v0_2 (by decide)).trans ((W3_of m c main_v0_2 (by decide)).trans (V2_hist m c)),
    (at_ main_v3_8 (by decide)).trans ((W3_arr m c 14).trans (Linear.hdy_arr (V2 m) c)),
    (at_ main_v3_3 (by decide)).trans ((W3_arr m c 9).trans (Linear.xq_arr (V2 m) c)),
    (at_ main_v3_5 (by decide)).trans ((W3_arr m c 11).trans (Linear.xs_arr (V2 m) c)),
    (at_ main_v0_0 (by decide)).trans ((W3_of m c main_v0_0 (by decide)).trans (V2_codes m c)),
    (at_ main_v0_1 (by decide)).trans ((W3_of m c main_v0_1 (by decide)).trans (V2_scale m c)),
    (at_ main_v3_4 (by decide)).trans ((W3_arr m c 10).trans (Linear.dyq_arr (V2 m) c)),
    (at_ main_v3_6 (by decide)).trans ((W3_arr m c 12).trans (Linear.dys_arr (V2 m) c)),
    arg main_arg0 (by decide) (by decide), arg main_arg1 (by decide) (by decide), arg main_arg2 (by decide) (by decide),
    arg main_arg3 (by decide) (by decide), arg main_arg4 (by decide) (by decide), arg main_arg5 (by decide) (by decide)⟩

end Cert.KernelIdeal.Value
-- ==== Proof.ReferenceScale.lean ====
module
public import proofs.«01_k».proof.Proof.Spec
public import proofs.«01_k».proof.Proof.Gen.ReferenceIdeal.Frame
@[expose] public section

/-! The reference's three scales and their inverses, at extended reals. -/

namespace Cert.ReferenceIdeal.Scales
open Idealize.ShloMosaic Cert.Scale Cert.Spec
set_option maxRecDepth 16384

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_148 : Ideal.ofBits .f32 0x43140000#32 = ((148 : ℝ) : EReal) := by
  simp [Ideal.ofBits, Ideal.ieee, -EReal.coe_mul]; norm_num

theorem toInt_small (k : Fin 276) : (BitVec.ofNat 32 k.val).toInt = (k.val : ℤ) := by
  have := k.isLt
  rw [BitVec.toInt_ofNat', Int.bmod_eq_of_le] <;> omega

/-- Two to an integer. -/
theorem exp2_int (e : ℤ) : FloatOps.exp2 (F := Ideal) (φ := .f32) (((e : ℤ) : ℝ) : EReal) = pow2 e := by
  show ((Real.rpow 2 (e : ℝ) : ℝ) : EReal) = _
  rw [pow2, show Real.rpow 2 (e : ℝ) = (2 : ℝ) ^ (e : ℝ) from rfl, Real.rpow_intCast]

/-- Two to an integer, its sign turned by a subtraction from zero. -/
theorem exp2_neg_int (e : ℤ) : FloatOps.exp2 (F := Ideal) (φ := .f32) ((0 : EReal) - (((e : ℤ) : ℝ) : EReal)) = pow2 (-e) := by
  rw [← exp2_int, zero_sub, ← EReal.coe_neg]; push_cast; rfl

/-- The power the `k`th comparison is with. -/
theorem power_k (k : Fin 276) : FloatOps.exp2 (F := Ideal) (φ := .f32)
    (FloatOps.sitofp (F := Ideal) .f32 (BitVec.ofNat 32 k.val) - Ideal.ofBits .f32 0x43140000#32) = pow2 ((k.val : ℤ) - 148) := by
  rw [bits_148, ← exp2_int]
  show FloatOps.exp2 (F := Ideal) (φ := .f32) (((((BitVec.ofNat 32 k.val).toInt : ℤ) : ℝ) : EReal) - _) = _
  rw [toInt_small, ← EReal.coe_sub]; push_cast; rfl

/-- The number of powers not above `m`, less 148. -/
theorem counted (m : EReal) : (∑ _x : Fin 1, ∑ k : Fin 276,
    if FloatOps.exp2 (F := Ideal) (φ := .f32) (FloatOps.sitofp (F := Ideal) .f32 (BitVec.ofNat 32 k.val) - Ideal.ofBits .f32 0x43140000#32) ≤ m
      then (1 : EReal) else 0) - Ideal.ofBits .f32 0x43140000#32 = ((((Scale.count m : ℤ) - 148 : ℤ) : ℝ) : EReal) := by
  simp only [power_k]
  simp only [bits_148, Finset.sum_const, Finset.card_univ, Fintype.card_fin, one_smul]
  have : (∑ k : Fin 276, if pow2 ((k.val : ℤ) - 148) ≤ m then (1 : EReal) else 0) = (((Scale.count m : ℕ) : ℝ) : EReal) := by
    rw [Finset.sum_ite, Finset.sum_const_zero, add_zero, Finset.sum_const, Scale.count]
    simp
  rw [this, ← EReal.coe_sub]
  push_cast; rfl

/-- The exponent as the reference guards it. -/
theorem guarded (K : BitVec 32) (a : EReal) : (if a = 0 then (0 : EReal) else
    Scalar.select (Scalar.andi
        (BitVec.ofBool (decide (0 < Scalar.absf (F := Ideal) (φ := .f32) (a * Ideal.ofBits .f32 K))))
        (BitVec.ofBool (decide (Scalar.absf (F := Ideal) (φ := .f32) (a * Ideal.ofBits .f32 K) < Ideal.ofBits .f32 0x7F800000#32))))
      ((∑ _x : Fin 1, ∑ k : Fin 276,
        if FloatOps.exp2 (F := Ideal) (φ := .f32) (FloatOps.sitofp (F := Ideal) .f32 (BitVec.ofNat 32 k.val) - Ideal.ofBits .f32 0x43140000#32)
            ≤ Scalar.absf (F := Ideal) (φ := .f32) (a * Ideal.ofBits .f32 K)
          then (1 : EReal) else 0) - Ideal.ofBits .f32 0x43140000#32) 0)
    = ((exponent (Ideal.ofBits .f32 K) a : ℝ) : EReal) := by
  have hm : Scalar.absf (F := Ideal) (φ := .f32) (a * Ideal.ofBits .f32 K) = mag (a * Ideal.ofBits .f32 K) := rfl
  rw [hm, counted, bits_top]
  unfold exponent
  by_cases ha : a = 0
  · rw [if_pos ha, if_pos ha]; simp
  rw [if_neg ha, if_neg ha]
  have hand : ∀ p q : Bool, Scalar.andi (BitVec.ofBool p) (BitVec.ofBool q) = BitVec.ofBool (p && q) := by decide
  rw [hand]
  by_cases h : 0 < mag (a * Ideal.ofBits .f32 K) ∧ mag (a * Ideal.ofBits .f32 K) < ⊤
  · rw [if_pos h, select_pos (by simp [h.1, h.2])]
  · rw [if_neg h, select_neg (by simpa [not_and_or] using h)]; simp

/-- The exponent of the activations' history. -/
theorem exponent_x (h : Vec Ideal S16 .f32) : Gen.k0_pay7 h = ((exponent perMax4 (hmax h) : ℝ) : EReal) := by
  refine Eq.trans ?_ (guarded 0x3B124925#32 (hmax h))
  pointwise [Gen.k0_pay7, hmax]
  simp only [bits_bot]
  congr!

/-- The exponent of the weights' history. -/
theorem exponent_w (h : Vec Ideal S16 .f32) : Gen.k0_pay10 h = ((exponent perMax4 (hmax h) : ℝ) : EReal) := exponent_x h

/-- The exponent of the gradients' history. -/
theorem exponent_dy (h : Vec Ideal S16 .f32) :
    Gen.k0_pay17 (Gen.k0_pay13 h) (Gen.k0_pay14 h) Gen.k0_pay15 (Gen.k0_pay16 h) = ((exponent perMax5 (hmax h) : ℝ) : EReal) := by
  refine Eq.trans ?_ (guarded 0x37924925#32 (hmax h))
  pointwise [Gen.k0_pay17, Gen.k0_pay13, Gen.k0_pay14, Gen.k0_pay15, Gen.k0_pay16, hmax]
  simp only [bits_bot]
  congr!

theorem scale_x (h : Vec Ideal S16 .f32) : Gen.k0_pay8 h = scale perMax4 h := by
  unfold Gen.k0_pay8; rw [exponent_x]; exact exp2_int _
theorem scale_w (h : Vec Ideal S16 .f32) : Gen.k0_pay11 h = scale perMax4 h := scale_x h
theorem scale_dy (h : Vec Ideal S16 .f32) :
    Gen.k0_pay18 (Gen.k0_pay13 h) (Gen.k0_pay14 h) Gen.k0_pay15 (Gen.k0_pay16 h) = scale perMax5 h := by
  unfold Gen.k0_pay18; rw [exponent_dy]; exact exp2_int _

theorem sub_int (e : ℤ) : FloatOps.exp2 (F := Ideal) (φ := .f32)
    (Scalar.subf (F := Ideal) (φ := .f32) (Scalar.ofBits .f32 0x00000000#32) (((e : ℤ) : ℝ) : EReal)) = pow2 (-e) := by
  rw [← exp2_neg_int, show Scalar.ofBits (F := Ideal) .f32 0x00000000#32 = (0 : EReal) from Ideal.ofBits_zero_f32]; rfl

theorem inv_x (h : Vec Ideal S16 .f32) : Gen.k0_pay9 h = inv perMax4 h := by
  unfold Gen.k0_pay9; rw [exponent_x]; exact sub_int _
theorem inv_w (h : Vec Ideal S16 .f32) : Gen.k0_pay12 h = inv perMax4 h := inv_x h
/-- The inverse scale of the gradients' history, which the reference forms as it forms the codes. -/
theorem inv_dy (h : Vec Ideal S16 .f32) : FloatOps.exp2 (F := Ideal) (φ := .f32)
    (Scalar.subf (Scalar.ofBits .f32 0x00000000#32)
      (Gen.k0_pay17 (Gen.k0_pay13 h) (Gen.k0_pay14 h) Gen.k0_pay15 (Gen.k0_pay16 h))) = inv perMax5 h := by
  rw [exponent_dy]; exact sub_int _

end Cert.ReferenceIdeal.Scales
-- ==== Proof.ReferenceValue.lean ====
module
public import proofs.«01_k».proof.Proof.ReferenceScale
@[expose] public section

/-! What the reference's body leaves in each of its results, as the formulas of `Cert.Spec`. -/

namespace Cert.ReferenceIdeal.Value
open Idealize.ShloMosaic Cert.Scale Cert.Spec Cert.ReferenceIdeal.Scales
set_option maxRecDepth 16384

/-! ## The codes -/

/-- The activations' codes. -/
theorem codes_x (x : Vec Ideal S8192x2304 .bf16) (h : Vec Ideal S16 .f32) :
    Gen.k0_pay19 (Gen.k0_pay5 x) (Gen.k0_pay9 h) = codes lo4 hi4 (inv perMax4 h) x := by
  rw [inv_x]
  funext i
  rw [eq_ix2 i]
  pointwise [Gen.k0_pay19, Gen.k0_pay5]
  rfl

/-- The weights' codes. -/
theorem codes_w (w : Vec Ideal S2304x2560 .f32) (h : Vec Ideal S16 .f32) :
    Gen.k0_pay20 w (Gen.k0_pay12 h) = codes lo4 hi4 (inv perMax4 h) w := by
  rw [inv_w]
  funext i
  rw [eq_ix2 i]
  pointwise [Gen.k0_pay20]
  rfl

/-- The gradients' codes. -/
theorem codes_dy (dy : Vec Ideal S8192x2560 .bf16) (h : Vec Ideal S16 .f32) :
    Gen.k0_pay21 (Gen.k0_pay6 dy) (Gen.k0_pay13 h) (Gen.k0_pay14 h) Gen.k0_pay15 (Gen.k0_pay16 h) = codes lo5 hi5 (inv perMax5 h) dy := by
  rw [← inv_dy]
  generalize hp : Gen.k0_pay17 (Gen.k0_pay13 h) (Gen.k0_pay14 h) Gen.k0_pay15 (Gen.k0_pay16 h) = p
  unfold Gen.k0_pay21
  rw [hp]
  funext i
  rw [eq_ix2 i]
  pointwise [Gen.k0_pay6]
  rfl

/-! ## The products -/

/-- The outputs. -/
theorem y_eq (x : Vec Ideal S8192x2304 .bf16) (w : Vec Ideal S2304x2560 .f32) (hx hw : Vec Ideal S16 .f32) :
    Gen.k0_pay23 (Gen.k0_pay22 (Gen.k0_pay5 x) w (Gen.k0_pay8 hx) (Gen.k0_pay9 hx) (Gen.k0_pay11 hw) (Gen.k0_pay12 hw))
      = prodRC (scale perMax4 hx * scale perMax4 hw) (codes lo4 hi4 (inv perMax4 hx) x) (codes lo4 hi4 (inv perMax4 hw) w) := by
  unfold Gen.k0_pay22
  rw [codes_x, codes_w, scale_x, scale_w]
  funext i
  rw [eq_ix2 i]
  pointwise [Gen.k0_pay23]
  simp [prodRC]

/-- The input gradients. -/
theorem dx_eq (s t : EReal) (wq : Vec Ideal S2304x2560 .fp8e4m3) (dyq : Vec Ideal S8192x2560 .fp8e5m2) :
    Gen.k0_pay24 (F := Ideal) s t wq dyq = prodRR (t * s) dyq wq := by
  funext i
  rw [eq_ix2 i]
  pointwise [Gen.k0_pay24]
  simp [prodRR]

/-- The weight gradients. -/
theorem dw_eq (s t : EReal) (xq : Vec Ideal S8192x2304 .fp8e4m3) (dyq : Vec Ideal S8192x2560 .fp8e5m2) :
    Gen.k0_pay25 (F := Ideal) s t xq dyq = prodCC (s * t) xq dyq := by
  funext i
  rw [eq_ix2 i]
  pointwise [Gen.k0_pay25]
  simp [prodCC]

/-! ## The histories -/

/-- The histories as the reference writes them: its first fifteen cells from the old ones, its last a maximum. -/
theorem pushed (h : Hist) (v : EReal) {a b : ℕ} (m : Mat a b) (k : Fin 16) (g : k.val < 15 → Fin 16)
    (hg : ∀ hk, (g hk).val = 1 + k.val)
    (hv : v = Finset.fold max (Ideal.ofBits .f32 0xFF800000#32) (fun p : Fin a × Fin b => mag (m (ix2 p.1 p.2))) Finset.univ) :
    (if hk : k.val < 15 then h (ix1 (g hk)) else v) = push h (amax m) (ix1 k) := by
  show _ = if hi : k.val + 1 < 16 then h (ix1 (⟨k.val + 1, hi⟩ : Fin 16)) else amax m
  by_cases hk : k.val < 15
  · rw [dif_pos hk, dif_pos (show k.val + 1 < 16 by omega)]
    refine congrArg (fun q => h (ix1 q)) (Fin.ext ?_)
    rw [hg hk, Nat.add_comm]
  · rw [dif_neg hk, dif_neg (show ¬ k.val + 1 < 16 by omega), hv, bits_bot]
    rfl

/-- The activations' next history. -/
theorem history_x (x : Vec Ideal S8192x2304 .bf16) (h : Vec Ideal S16 .f32) :
    Gen.k0_pay26 (Gen.k0_pay5 x) h = push h (amax x) := by
  funext i
  rw [eq_ix1 i]
  generalize (i 0 : Fin 16) = k
  refine Eq.trans ?_ (pushed h _ x k (fun hk => ⟨1 + k.val, by omega⟩) (fun _ => rfl) rfl)
  set_option maxRecDepth 200000 in
  pointwise [Gen.k0_pay26, Gen.k0_pay5]
  rfl

/-- The weights' next history. -/
theorem history_w (w : Vec Ideal S2304x2560 .f32) (h : Vec Ideal S16 .f32) :
    Gen.k0_pay27 w h = push h (amax w) := by
  funext i
  rw [eq_ix1 i]
  generalize (i 0 : Fin 16) = k
  refine Eq.trans ?_ (pushed h _ w k (fun hk => ⟨1 + k.val, by omega⟩) (fun _ => rfl) rfl)
  set_option maxRecDepth 200000 in
  pointwise [Gen.k0_pay27]
  rfl

/-- The gradients' next history. -/
theorem history_dy (dy : Vec Ideal S8192x2560 .bf16) (h : Vec Ideal S16 .f32) :
    Gen.k0_pay1 (Gen.k0_pay28 h) (Gen.k0_pay29 (Gen.k0_pay6 dy)) = push h (amax dy) := by
  funext i
  rw [eq_ix1 i]
  generalize (i 0 : Fin 16) = k
  refine Eq.trans ?_ (pushed h _ dy k (fun hk => ⟨1 + k.val, by omega⟩) (fun _ => rfl) rfl)
  set_option maxRecDepth 200000 in
  pointwise [Gen.k0_pay1, Gen.k0_pay28, Gen.k0_pay29, Gen.k0_pay6]
  rfl

/-! ## The input blocks: each is its whole array -/

variable (m : (ℓ : Loc nD τ sig) → Buf (Elt Ideal) ℓ) (c : Dev nD)

theorem blk_x (t : Fin cfg0.N) : (Gen.iblk m c 0 t : Vec Ideal S8192x2304 .bf16) = Gen.V m c main_v0 := by
  have e : ∀ t a, (cfg0.win 0).index t a = 0 := by decide +kernel
  exact funext fun y => congrArg (Gen.V m c main_v0) (funext fun a => Fin.ext ((cfg0.win 0).rect_emb_val_of_index_zero t a (e t a) y))

theorem blk_w (t : Fin cfg0.N) : (Gen.iblk m c 1 t : Vec Ideal S2304x2560 .f32) = Gen.V m c main_arg1 := by
  have e : ∀ t a, (cfg0.win 1).index t a = 0 := by decide +kernel
  exact funext fun y => congrArg (Gen.V m c main_arg1) (funext fun a => Fin.ext ((cfg0.win 1).rect_emb_val_of_index_zero t a (e t a) y))

theorem blk_dy (t : Fin cfg0.N) : (Gen.iblk m c 2 t : Vec Ideal S8192x2560 .bf16) = Gen.V m c main_v1 := by
  have e : ∀ t a, (cfg0.win 2).index t a = 0 := by decide +kernel
  exact funext fun y => congrArg (Gen.V m c main_v1) (funext fun a => Fin.ext ((cfg0.win 2).rect_emb_val_of_index_zero t a (e t a) y))

theorem blk_hx (t : Fin cfg0.N) : (Gen.iblk m c 3 t : Vec Ideal S16 .f32) = Gen.V m c main_arg3 := by
  have e : ∀ t a, (cfg0.win 3).index t a = 0 := by decide +kernel
  exact funext fun y => congrArg (Gen.V m c main_arg3) (funext fun a => Fin.ext ((cfg0.win 3).rect_emb_val_of_index_zero t a (e t a) y))

theorem blk_hw (t : Fin cfg0.N) : (Gen.iblk m c 4 t : Vec Ideal S16 .f32) = Gen.V m c main_arg4 := by
  have e : ∀ t a, (cfg0.win 4).index t a = 0 := by decide +kernel
  exact funext fun y => congrArg (Gen.V m c main_arg4) (funext fun a => Fin.ext ((cfg0.win 4).rect_emb_val_of_index_zero t a (e t a) y))

theorem blk_hdy (t : Fin cfg0.N) : (Gen.iblk m c 5 t : Vec Ideal S16 .f32) = Gen.V m c main_arg5 := by
  have e : ∀ t a, (cfg0.win 5).index t a = 0 := by decide +kernel
  exact funext fun y => congrArg (Gen.V m c main_arg5) (funext fun a => Fin.ext ((cfg0.win 5).rect_emb_val_of_index_zero t a (e t a) y))

/-! ## The arrays -/

/-- What the layer is given, as the call finds it. -/
noncomputable def args : Args :=
  ⟨Gen.V m c main_v0, Gen.V m c main_arg1, Gen.V m c main_v1, Gen.V m c main_arg3, Gen.V m c main_arg4, Gen.V m c main_arg5⟩

theorem arr_6 : (Gen.dats (F := Ideal) m 0 c).arrAt 6 cfg0.N = (args m c).y := by
  refine (Gen.dats m 0 c).arrAt_eq_of_after_last 6 Gen.t0_0 (by decide +kernel) _ fun j => ?_
  blk_simp
  rw [Gen.after0_6]
  simp only [Gen.out0_6, Gen.k0_pay30]
  frame_out
  rw [blk_x, blk_w, blk_hx, blk_hw]
  rw [y_eq]
  rfl

theorem arr_7 : (Gen.dats (F := Ideal) m 0 c).arrAt 7 cfg0.N = (args m c).dx := by
  refine (Gen.dats m 0 c).arrAt_eq_of_after_last 7 Gen.t0_0 (by decide +kernel) _ fun j => ?_
  blk_simp
  rw [Gen.after0_7]
  simp only [Gen.out0_7, Gen.k0_pay36, Gen.k0_pay35, Gen.k0_pay33, Gen.k0_pay32, Gen.k0_pay31]
  frame_out
  rw [blk_w, blk_dy, blk_hw, blk_hdy]
  rw [codes_w, codes_dy, scale_w, scale_dy, dx_eq]
  rfl

theorem arr_8 : (Gen.dats (F := Ideal) m 0 c).arrAt 8 cfg0.N = (args m c).dw := by
  refine (Gen.dats m 0 c).arrAt_eq_of_after_last 8 Gen.t0_0 (by decide +kernel) _ fun j => ?_
  blk_simp
  rw [Gen.after0_8]
  simp only [Gen.out0_8, Gen.k0_pay36, Gen.k0_pay34, Gen.k0_pay33, Gen.k0_pay32, Gen.k0_pay31, Gen.k0_pay30]
  frame_out
  rw [blk_x, blk_dy, blk_hx, blk_hdy]
  rw [codes_x, codes_dy, scale_x, scale_dy, dw_eq]
  rfl

theorem arr_9 : (Gen.dats (F := Ideal) m 0 c).arrAt 9 cfg0.N = (args m c).hx' := by
  refine (Gen.dats m 0 c).arrAt_eq_of_after_last 9 Gen.t0_0 (by decide +kernel) _ fun j => ?_
  blk_simp
  rw [Gen.after0_9]
  simp only [Gen.out0_9, Gen.k0_pay30]
  frame_out
  rw [blk_x, blk_hx]
  rw [history_x]
  rfl

theorem arr_10 : (Gen.dats (F := Ideal) m 0 c).arrAt 10 cfg0.N = (args m c).hw' := by
  refine (Gen.dats m 0 c).arrAt_eq_of_after_last 10 Gen.t0_0 (by decide +kernel) _ fun j => ?_
  blk_simp
  rw [Gen.after0_10]
  simp only [Gen.out0_10]
  frame_out
  rw [blk_w, blk_hw]
  rw [history_w]
  rfl

theorem arr_11 : (Gen.dats (F := Ideal) m 0 c).arrAt 11 cfg0.N = (args m c).hdy' := by
  refine (Gen.dats m 0 c).arrAt_eq_of_after_last 11 Gen.t0_0 (by decide +kernel) _ fun j => ?_
  blk_simp
  rw [Gen.after0_11]
  simp only [Gen.out0_11, Gen.k0_pay31]
  frame_out
  rw [blk_dy, blk_hdy]
  rw [history_dy]
  rfl

theorem arr_12 : (Gen.dats (F := Ideal) m 0 c).arrAt 12 cfg0.N = (args m c).xq := by
  refine (Gen.dats m 0 c).arrAt_eq_of_after_last 12 Gen.t0_0 (by decide +kernel) _ fun j => ?_
  blk_simp
  rw [Gen.after0_12]
  simp only [Gen.out0_12, Gen.k0_pay34, Gen.k0_pay30]
  frame_out
  rw [blk_x, blk_hx]
  rw [codes_x]
  rfl

theorem arr_13 : (Gen.dats (F := Ideal) m 0 c).arrAt 13 cfg0.N = (fun _ => (args m c).xs) := by
  refine (Gen.dats m 0 c).arrAt_eq_of_after_last 13 Gen.t0_0 (by decide +kernel) _ fun j => ?_
  blk_simp
  rw [Gen.after0_13]
  simp only [Gen.out0_13]
  frame_out
  rw [blk_hx]
  rw [scale_x]
  rfl

theorem arr_14 : (Gen.dats (F := Ideal) m 0 c).arrAt 14 cfg0.N = (args m c).wq := by
  refine (Gen.dats m 0 c).arrAt_eq_of_after_last 14 Gen.t0_0 (by decide +kernel) _ fun j => ?_
  blk_simp
  rw [Gen.after0_14]
  simp only [Gen.out0_14, Gen.k0_pay35]
  frame_out
  rw [blk_w, blk_hw]
  rw [codes_w]
  rfl

theorem arr_15 : (Gen.dats (F := Ideal) m 0 c).arrAt 15 cfg0.N = (fun _ => (args m c).ws) := by
  refine (Gen.dats m 0 c).arrAt_eq_of_after_last 15 Gen.t0_0 (by decide +kernel) _ fun j => ?_
  blk_simp
  rw [Gen.after0_15]
  simp only [Gen.out0_15]
  frame_out
  rw [blk_hw]
  rw [scale_w]
  rfl

theorem arr_16 : (Gen.dats (F := Ideal) m 0 c).arrAt 16 cfg0.N = (args m c).dyq := by
  refine (Gen.dats m 0 c).arrAt_eq_of_after_last 16 Gen.t0_0 (by decide +kernel) _ fun j => ?_
  blk_simp
  rw [Gen.after0_16]
  simp only [Gen.out0_16, Gen.k0_pay36, Gen.k0_pay33, Gen.k0_pay32, Gen.k0_pay31]
  frame_out
  rw [blk_dy, blk_hdy]
  rw [codes_dy]
  rfl

theorem arr_17 : (Gen.dats (F := Ideal) m 0 c).arrAt 17 cfg0.N = (fun _ => (args m c).dys) := by
  refine (Gen.dats m 0 c).arrAt_eq_of_after_last 17 Gen.t0_0 (by decide +kernel) _ fun j => ?_
  blk_simp
  rw [Gen.after0_17]
  simp only [Gen.out0_17, Gen.k0_pay33, Gen.k0_pay32]
  frame_out
  rw [blk_hdy]
  rw [scale_dy]
  rfl

end Cert.ReferenceIdeal.Value
-- ==== Proof.ReferenceResult.lean ====
module
public import proofs.«01_k».proof.Proof.ReferenceValue
public import Idealize.ShloMosaic.Lib.Claim
@[expose] public section

/-! The reference's run: what each of its twelve results holds, as the formulas of `Cert.Spec`. -/

namespace Cert.ReferenceIdeal.Value
open Idealize.ShloMosaic Cert.Scale Cert.Spec
set_option maxRecDepth 16384

variable (m : (ℓ : Loc nD τ sig) → Buf (Elt Ideal) ℓ) (c : Dev nD)

/-- The activations enter the call with their first two axes merged. -/
theorem V_main_v0 : (Gen.V m c main_v0 : Vec Ideal S8192x2304 .bf16)
    = shapeCast S8192x2304 (m ((c.tc : Thread nD τ).loc main_arg0) : Vec Ideal S8x1024x2304 .bf16) Gen.shapeCasts_S8x1024x2304_S8192x2304 := by
  show StableHlo.after Gen.hostOps0 _ _ = _
  unfold Gen.hostOps0
  after_results
  rfl

/-- The gradients enter the call with their first two axes merged. -/
theorem V_main_v1 : (Gen.V m c main_v1 : Vec Ideal S8192x2560 .bf16)
    = shapeCast S8192x2560 (m ((c.tc : Thread nD τ).loc main_arg2) : Vec Ideal S8x1024x2560 .bf16) Gen.shapeCasts_S8x1024x2560_S8192x2560 := by
  show StableHlo.after Gen.hostOps0 _ _ = _
  unfold Gen.hostOps0
  after_results
  rfl

/-- The rows of the outputs taken by eights. -/
theorem cast_y (v : Mat 8192 2560) : shapeCast S1024x8x2560 v Gen.shapeCasts_S8192x2560_S1024x8x2560 = byEights (n := 1024) v := by
  funext i
  rw [eq_ix3 i]
  pointwise []
  rfl

/-- The rows of the input gradients taken by eights. -/
theorem cast_dx (v : Mat 8192 2304) : shapeCast S1024x8x2304 v Gen.shapeCasts_S8192x2304_S1024x8x2304 = byEights (n := 1024) v := by
  funext i
  rw [eq_ix3 i]
  pointwise []
  rfl

/-- The outputs at the end. -/
theorem y_result : Pipeline.afterTail₀ cfgs (Gen.dats (F := Ideal) m) 0 (Gen.V0 m) [Gen.hostOps1] c main_v3
    = byEights (n := 1024) (args m c).y := by
  rw [← cast_y, ← arr_6]
  show StableHlo.after Gen.hostOps1 _ _ = _
  unfold Gen.hostOps1
  after_results
  exact congrArg (fun v => shapeCast S1024x8x2560 v Gen.shapeCasts_S8192x2560_S1024x8x2560)
    (Pipeline.withArrays_arr spec0 Gen.launch0.win.arr_inj c (Gen.V0 m c) (fun w => (Gen.dats m 0 c).arrAt w (cfgs 0).N) 6)

/-- The input gradients at the end. -/
theorem dx_result : Pipeline.afterTail₀ cfgs (Gen.dats (F := Ideal) m) 0 (Gen.V0 m) [Gen.hostOps1] c main_v4
    = byEights (n := 1024) (args m c).dx := by
  rw [← cast_dx, ← arr_7]
  show StableHlo.after Gen.hostOps1 _ _ = _
  unfold Gen.hostOps1
  after_results
  exact congrArg (fun v => shapeCast S1024x8x2304 v Gen.shapeCasts_S8192x2304_S1024x8x2304)
    (Pipeline.withArrays_arr spec0 Gen.launch0.win.arr_inj c (Gen.V0 m c) (fun w => (Gen.dats m 0 c).arrAt w (cfgs 0).N) 7)

/-- The run: the twelve results, and the arguments as they were. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = (byEights (n := 1024) (args m c).y)
      ∧ r.2.mem ((c.tc : Thread nD τ).loc main_v4) = (byEights (n := 1024) (args m c).dx)
      ∧ r.2.mem ((c.tc : Thread nD τ).loc main_v2_2) = ((args m c).dw)
      ∧ r.2.mem ((c.tc : Thread nD τ).loc main_v2_3) = ((args m c).hx')
      ∧ r.2.mem ((c.tc : Thread nD τ).loc main_v2_4) = ((args m c).hw')
      ∧ r.2.mem ((c.tc : Thread nD τ).loc main_v2_5) = ((args m c).hdy')
      ∧ r.2.mem ((c.tc : Thread nD τ).loc main_v2_6) = ((args m c).xq)
      ∧ r.2.mem ((c.tc : Thread nD τ).loc main_v2_7) = (fun _ => (args m c).xs)
      ∧ r.2.mem ((c.tc : Thread nD τ).loc main_v2_8) = ((args m c).wq)
      ∧ r.2.mem ((c.tc : Thread nD τ).loc main_v2_9) = (fun _ => (args m c).ws)
      ∧ r.2.mem ((c.tc : Thread nD τ).loc main_v2_10) = ((args m c).dyq)
      ∧ r.2.mem ((c.tc : Thread nD τ).loc main_v2_11) = (fun _ => (args m c).dys)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨((h c).2 main_v3 (Pipeline.mem_restRefs_of main_v3 (by decide) (by decide))).trans (y_result m c),
    ((h c).2 main_v4 (Pipeline.mem_restRefs_of main_v4 (by decide) (by decide))).trans (dx_result m c),
    ((h c).1 8).trans (arr_8 m c),
    ((h c).1 9).trans (arr_9 m c),
    ((h c).1 10).trans (arr_10 m c),
    ((h c).1 11).trans (arr_11 m c),
    ((h c).1 12).trans (arr_12 m c),
    ((h c).1 13).trans (arr_13 m c),
    ((h c).1 14).trans (arr_14 m c),
    ((h c).1 15).trans (arr_15 m c),
    ((h c).1 16).trans (arr_16 m c),
    ((h c).1 17).trans (arr_17 m c),
    ((h c).2 main_arg0 (Pipeline.mem_restRefs_of main_arg0 (by decide) (by decide))).trans (Gen.W_main_arg0 m _ c),
    ((h c).1 1).trans (((Gen.dats m 0 c).arrAt_in 1 rfl _).trans ((Gen.A_eq m c 1).trans (Gen.V_main_arg1 m c))),
    ((h c).2 main_arg2 (Pipeline.mem_restRefs_of main_arg2 (by decide) (by decide))).trans (Gen.W_main_arg2 m _ c),
    ((h c).1 3).trans (((Gen.dats m 0 c).arrAt_in 3 rfl _).trans ((Gen.A_eq m c 3).trans (Gen.V_main_arg3 m c))),
    ((h c).1 4).trans (((Gen.dats m 0 c).arrAt_in 4 rfl _).trans ((Gen.A_eq m c 4).trans (Gen.V_main_arg4 m c))),
    ((h c).1 5).trans (((Gen.dats m 0 c).arrAt_in 5 rfl _).trans ((Gen.A_eq m c 5).trans (Gen.V_main_arg5 m c)))⟩) (Gen.run_main m ρ)

end Cert.ReferenceIdeal.Value
-- ==== Proof.Algebraic.lean ====
module
public import proofs.«01_k».proof.Defs
public import proofs.«01_k».proof.Proof.KernelResult
public import proofs.«01_k».proof.Proof.ReferenceResult
@[expose] public section
set_option maxRecDepth 16384

/-! The idealized kernel and the idealized reference end with equal results. -/

namespace Cert.Algebraic
open Idealize.ShloMosaic Idealize.ShloMosaic.TcCoe Idealize.SL.Sem Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal arguments both programs are given the same layer: the merge of the first two axes is the same on both
    sides, and everything else arrives as it is. -/
theorem args_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.args m' c = Cert.KernelIdeal.Value.args m c := by
  unfold Cert.ReferenceIdeal.Value.args Cert.KernelIdeal.Value.args
  refine (Args.mk.injEq ..).mpr ⟨?_, ?_, ?_, ?_, ?_, ?_⟩
  · refine (Cert.ReferenceIdeal.Value.V_main_v0 m' c).trans (Eq.trans ?_ (Cert.KernelIdeal.Value.V2_main_v1 m c).symm)
    rw [h0]
  · exact (Cert.ReferenceIdeal.Gen.V_main_arg1 m' c).trans (h1.trans (Cert.KernelIdeal.Run.W2_args m c Cert.KernelIdeal.main_arg1 (by decide)).symm)
  · refine (Cert.ReferenceIdeal.Value.V_main_v1 m' c).trans (Eq.trans ?_ (Cert.KernelIdeal.Value.V2_main_v2 m c).symm)
    rw [h2]
  · exact (Cert.ReferenceIdeal.Gen.V_main_arg3 m' c).trans (h3.trans (Cert.KernelIdeal.Run.W2_args m c Cert.KernelIdeal.main_arg3 (by decide)).symm)
  · exact (Cert.ReferenceIdeal.Gen.V_main_arg4 m' c).trans (h4.trans (Cert.KernelIdeal.Run.W2_args m c Cert.KernelIdeal.main_arg4 (by decide)).symm)
  · exact (Cert.ReferenceIdeal.Gen.V_main_arg5 m' c).trans (h5.trans (Cert.KernelIdeal.Run.W2_args m c Cert.KernelIdeal.main_arg5 (by decide)).symm)

/-- From equal arguments the idealized kernel and the idealized reference both end, each with the same twelve results. -/
theorem claim : Cert.algebraic_KernelIdeal_ReferenceIdeal (hKernelIdeal := Cert.KernelIdeal.Gen.facts) (hReferenceIdeal := Cert.ReferenceIdeal.Gen.facts) := by
  intro m g m' g' _ hag
  have ha (c : Dev Cert.KernelIdeal.nD) : Cert.ReferenceIdeal.Value.args m' c = Cert.KernelIdeal.Value.args m c :=
    args_eq m m' c (hag c).1 (hag c).2.1 (hag c).2.2.1 (hag c).2.2.2.1 (hag c).2.2.2.2.1 (hag c).2.2.2.2.2
  have hr := Cert.ReferenceIdeal.Value.run m' g'
  simp only [ha] at hr
  exact ⟨_, _, _, _, _, _, _, _, _, _, _, _, Cert.KernelIdeal.Value.run m g, hr⟩

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Frames.kernel, Cert.Frames.kernelIdeal, fun m g _ => Cert.ReferenceIdeal.Gen.frame m g, trivial, Cert.Algebraic.claim⟩

end Cert.Proof

end
